-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S4096x1024 : Shape := ⟨2, ![4096, 1024]⟩
abbrev S_ : Shape := ⟨0, ![]⟩
abbrev S32 : Shape := ⟨1, ![32]⟩
abbrev S1 : Shape := ⟨1, ![1]⟩
abbrev S128x1024 : Shape := ⟨2, ![128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S4096x1024, .f32⟩
  | .local _ .vmem, ⟨1, _⟩ => ⟨S4096x1024, .f32⟩
  | _, _ => ⟨S8192x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 161 → Bool
  | ⟨i, _⟩ => dmaSemScopedAt i

abbrev sig : RefSig :=
  (ofTc nBuf bufTy 1 161 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_6 : BitVec 32 := 1#32
  let v11 : BitVec 32 := Scalar.muli v7 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_8 : BitVec 32 := 2#32
  let v13 : BitVec 32 := Scalar.muli v8 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_12 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v17 : BitVec 32 := Scalar.muli v2 c4096_i32
  let v18 : BitVec 32 := Scalar.addi v17 c0_i32_12
  let c0_i32_21 : BitVec 32 := 0#32
  ![v18.toNat, 0]
def k0_dev3 (d0 : Dev nD) : Nat :=
  let c0_i32_17 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_16 : BitVec 32 := 2#32
  let v20 : BitVec 32 := Scalar.muli v2 c2_i32_16
  let v21 : BitVec 32 := Scalar.addi c0_i32_17 v20
  let c1_i32_13 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.subi c1_i32_13 v5
  let c1_i32_18 : BitVec 32 := 1#32
  let v22 : BitVec 32 := Scalar.muli v19 c1_i32_18
  let v23 : BitVec 32 := Scalar.addi v21 v22
  v23.toNat
def k0_dev4 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v32 : BitVec 32 := Scalar.muli v2 c2_i32_25
  let v33 : BitVec 32 := Scalar.addi c0_i32_26 v32
  let c1_i32_22 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v31 : BitVec 32 := Scalar.subi c1_i32_22 v5
  let c1_i32_27 : BitVec 32 := 1#32
  let v34 : BitVec 32 := Scalar.muli v31 c1_i32_27
  let v35 : BitVec 32 := Scalar.addi v33 v34
  v35.toNat
def k0_dev5 (d0 : Dev nD) : Nat :=
  let c0_i32_35 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_34 : BitVec 32 := 2#32
  let v44 : BitVec 32 := Scalar.muli v2 c2_i32_34
  let v45 : BitVec 32 := Scalar.addi c0_i32_35 v44
  let c1_i32_31 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v43 : BitVec 32 := Scalar.subi c1_i32_31 v5
  let c1_i32_36 : BitVec 32 := 1#32
  let v46 : BitVec 32 := Scalar.muli v43 c1_i32_36
  let v47 : BitVec 32 := Scalar.addi v45 v46
  v47.toNat
def k0_dev6 (d0 : Dev nD) : Nat :=
  let c0_i32_43 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_42 : BitVec 32 := 2#32
  let v56 : BitVec 32 := Scalar.muli v2 c2_i32_42
  let v57 : BitVec 32 := Scalar.addi c0_i32_43 v56
  let c1_i32_40 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v55 : BitVec 32 := Scalar.subi c1_i32_40 v5
  let c1_i32_44 : BitVec 32 := 1#32
  let v58 : BitVec 32 := Scalar.muli v55 c1_i32_44
  let v59 : BitVec 32 := Scalar.addi v57 v58
  v59.toNat
def k0_dev7 (d0 : Dev nD) : Nat :=
  let c0_i32_51 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_50 : BitVec 32 := 2#32
  let v68 : BitVec 32 := Scalar.muli v2 c2_i32_50
  let v69 : BitVec 32 := Scalar.addi c0_i32_51 v68
  let c1_i32_48 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v67 : BitVec 32 := Scalar.subi c1_i32_48 v5
  let c1_i32_52 : BitVec 32 := 1#32
  let v70 : BitVec 32 := Scalar.muli v67 c1_i32_52
  let v71 : BitVec 32 := Scalar.addi v69 v70
  v71.toNat
def k0_dev8 (d0 : Dev nD) : Nat :=
  let c0_i32_59 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_58 : BitVec 32 := 2#32
  let v80 : BitVec 32 := Scalar.muli v2 c2_i32_58
  let v81 : BitVec 32 := Scalar.addi c0_i32_59 v80
  let c1_i32_56 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v79 : BitVec 32 := Scalar.subi c1_i32_56 v5
  let c1_i32_60 : BitVec 32 := 1#32
  let v82 : BitVec 32 := Scalar.muli v79 c1_i32_60
  let v83 : BitVec 32 := Scalar.addi v81 v82
  v83.toNat
def k0_dev9 (d0 : Dev nD) : Nat :=
  let c0_i32_67 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_66 : BitVec 32 := 2#32
  let v92 : BitVec 32 := Scalar.muli v2 c2_i32_66
  let v93 : BitVec 32 := Scalar.addi c0_i32_67 v92
  let c1_i32_64 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v91 : BitVec 32 := Scalar.subi c1_i32_64 v5
  let c1_i32_68 : BitVec 32 := 1#32
  let v94 : BitVec 32 := Scalar.muli v91 c1_i32_68
  let v95 : BitVec 32 := Scalar.addi v93 v94
  v95.toNat
def k0_dev10 (d0 : Dev nD) : Nat :=
  let c0_i32_75 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_74 : BitVec 32 := 2#32
  let v104 : BitVec 32 := Scalar.muli v2 c2_i32_74
  let v105 : BitVec 32 := Scalar.addi c0_i32_75 v104
  let c1_i32_72 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v103 : BitVec 32 := Scalar.subi c1_i32_72 v5
  let c1_i32_76 : BitVec 32 := 1#32
  let v106 : BitVec 32 := Scalar.muli v103 c1_i32_76
  let v107 : BitVec 32 := Scalar.addi v105 v106
  v107.toNat
def k0_dev11 (d0 : Dev nD) : Nat :=
  let c0_i32_83 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_82 : BitVec 32 := 2#32
  let v116 : BitVec 32 := Scalar.muli v2 c2_i32_82
  let v117 : BitVec 32 := Scalar.addi c0_i32_83 v116
  let c1_i32_80 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v115 : BitVec 32 := Scalar.subi c1_i32_80 v5
  let c1_i32_84 : BitVec 32 := 1#32
  let v118 : BitVec 32 := Scalar.muli v115 c1_i32_84
  let v119 : BitVec 32 := Scalar.addi v117 v118
  v119.toNat
def k0_dev12 (d0 : Dev nD) : Nat :=
  let c0_i32_91 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_90 : BitVec 32 := 2#32
  let v128 : BitVec 32 := Scalar.muli v2 c2_i32_90
  let v129 : BitVec 32 := Scalar.addi c0_i32_91 v128
  let c1_i32_88 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v127 : BitVec 32 := Scalar.subi c1_i32_88 v5
  let c1_i32_92 : BitVec 32 := 1#32
  let v130 : BitVec 32 := Scalar.muli v127 c1_i32_92
  let v131 : BitVec 32 := Scalar.addi v129 v130
  v131.toNat
def k0_dev13 (d0 : Dev nD) : Nat :=
  let c0_i32_99 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_98 : BitVec 32 := 2#32
  let v140 : BitVec 32 := Scalar.muli v2 c2_i32_98
  let v141 : BitVec 32 := Scalar.addi c0_i32_99 v140
  let c1_i32_96 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v139 : BitVec 32 := Scalar.subi c1_i32_96 v5
  let c1_i32_100 : BitVec 32 := 1#32
  let v142 : BitVec 32 := Scalar.muli v139 c1_i32_100
  let v143 : BitVec 32 := Scalar.addi v141 v142
  v143.toNat
def k0_dev14 (d0 : Dev nD) : Nat :=
  let c0_i32_107 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_106 : BitVec 32 := 2#32
  let v152 : BitVec 32 := Scalar.muli v2 c2_i32_106
  let v153 : BitVec 32 := Scalar.addi c0_i32_107 v152
  let c1_i32_104 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v151 : BitVec 32 := Scalar.subi c1_i32_104 v5
  let c1_i32_108 : BitVec 32 := 1#32
  let v154 : BitVec 32 := Scalar.muli v151 c1_i32_108
  let v155 : BitVec 32 := Scalar.addi v153 v154
  v155.toNat
def k0_dev15 (d0 : Dev nD) : Nat :=
  let c0_i32_115 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_114 : BitVec 32 := 2#32
  let v164 : BitVec 32 := Scalar.muli v2 c2_i32_114
  let v165 : BitVec 32 := Scalar.addi c0_i32_115 v164
  let c1_i32_112 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v163 : BitVec 32 := Scalar.subi c1_i32_112 v5
  let c1_i32_116 : BitVec 32 := 1#32
  let v166 : BitVec 32 := Scalar.muli v163 c1_i32_116
  let v167 : BitVec 32 := Scalar.addi v165 v166
  v167.toNat
def k0_dev16 (d0 : Dev nD) : Nat :=
  let c0_i32_123 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_122 : BitVec 32 := 2#32
  let v176 : BitVec 32 := Scalar.muli v2 c2_i32_122
  let v177 : BitVec 32 := Scalar.addi c0_i32_123 v176
  let c1_i32_120 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v175 : BitVec 32 := Scalar.subi c1_i32_120 v5
  let c1_i32_124 : BitVec 32 := 1#32
  let v178 : BitVec 32 := Scalar.muli v175 c1_i32_124
  let v179 : BitVec 32 := Scalar.addi v177 v178
  v179.toNat
def k0_dev17 (d0 : Dev nD) : Nat :=
  let c0_i32_131 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_130 : BitVec 32 := 2#32
  let v188 : BitVec 32 := Scalar.muli v2 c2_i32_130
  let v189 : BitVec 32 := Scalar.addi c0_i32_131 v188
  let c1_i32_128 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v187 : BitVec 32 := Scalar.subi c1_i32_128 v5
  let c1_i32_132 : BitVec 32 := 1#32
  let v190 : BitVec 32 := Scalar.muli v187 c1_i32_132
  let v191 : BitVec 32 := Scalar.addi v189 v190
  v191.toNat
def k0_dev18 (d0 : Dev nD) : Nat :=
  let c0_i32_139 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_138 : BitVec 32 := 2#32
  let v200 : BitVec 32 := Scalar.muli v2 c2_i32_138
  let v201 : BitVec 32 := Scalar.addi c0_i32_139 v200
  let c1_i32_136 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v199 : BitVec 32 := Scalar.subi c1_i32_136 v5
  let c1_i32_140 : BitVec 32 := 1#32
  let v202 : BitVec 32 := Scalar.muli v199 c1_i32_140
  let v203 : BitVec 32 := Scalar.addi v201 v202
  v203.toNat
def k0_dev19 (d0 : Dev nD) : Nat :=
  let c0_i32_147 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_146 : BitVec 32 := 2#32
  let v212 : BitVec 32 := Scalar.muli v2 c2_i32_146
  let v213 : BitVec 32 := Scalar.addi c0_i32_147 v212
  let c1_i32_144 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v211 : BitVec 32 := Scalar.subi c1_i32_144 v5
  let c1_i32_148 : BitVec 32 := 1#32
  let v214 : BitVec 32 := Scalar.muli v211 c1_i32_148
  let v215 : BitVec 32 := Scalar.addi v213 v214
  v215.toNat
def k0_dev20 (d0 : Dev nD) : Nat :=
  let c0_i32_155 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_154 : BitVec 32 := 2#32
  let v224 : BitVec 32 := Scalar.muli v2 c2_i32_154
  let v225 : BitVec 32 := Scalar.addi c0_i32_155 v224
  let c1_i32_152 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v223 : BitVec 32 := Scalar.subi c1_i32_152 v5
  let c1_i32_156 : BitVec 32 := 1#32
  let v226 : BitVec 32 := Scalar.muli v223 c1_i32_156
  let v227 : BitVec 32 := Scalar.addi v225 v226
  v227.toNat
def k0_dev21 (d0 : Dev nD) : Nat :=
  let c0_i32_163 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_162 : BitVec 32 := 2#32
  let v236 : BitVec 32 := Scalar.muli v2 c2_i32_162
  let v237 : BitVec 32 := Scalar.addi c0_i32_163 v236
  let c1_i32_160 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v235 : BitVec 32 := Scalar.subi c1_i32_160 v5
  let c1_i32_164 : BitVec 32 := 1#32
  let v238 : BitVec 32 := Scalar.muli v235 c1_i32_164
  let v239 : BitVec 32 := Scalar.addi v237 v238
  v239.toNat
def k0_dev22 (d0 : Dev nD) : Nat :=
  let c0_i32_171 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_170 : BitVec 32 := 2#32
  let v248 : BitVec 32 := Scalar.muli v2 c2_i32_170
  let v249 : BitVec 32 := Scalar.addi c0_i32_171 v248
  let c1_i32_168 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v247 : BitVec 32 := Scalar.subi c1_i32_168 v5
  let c1_i32_172 : BitVec 32 := 1#32
  let v250 : BitVec 32 := Scalar.muli v247 c1_i32_172
  let v251 : BitVec 32 := Scalar.addi v249 v250
  v251.toNat
def k0_dev23 (d0 : Dev nD) : Nat :=
  let c0_i32_179 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_178 : BitVec 32 := 2#32
  let v260 : BitVec 32 := Scalar.muli v2 c2_i32_178
  let v261 : BitVec 32 := Scalar.addi c0_i32_179 v260
  let c1_i32_176 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v259 : BitVec 32 := Scalar.subi c1_i32_176 v5
  let c1_i32_180 : BitVec 32 := 1#32
  let v262 : BitVec 32 := Scalar.muli v259 c1_i32_180
  let v263 : BitVec 32 := Scalar.addi v261 v262
  v263.toNat
def k0_dev24 (d0 : Dev nD) : Nat :=
  let c0_i32_187 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_186 : BitVec 32 := 2#32
  let v272 : BitVec 32 := Scalar.muli v2 c2_i32_186
  let v273 : BitVec 32 := Scalar.addi c0_i32_187 v272
  let c1_i32_184 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v271 : BitVec 32 := Scalar.subi c1_i32_184 v5
  let c1_i32_188 : BitVec 32 := 1#32
  let v274 : BitVec 32 := Scalar.muli v271 c1_i32_188
  let v275 : BitVec 32 := Scalar.addi v273 v274
  v275.toNat
def k0_dev25 (d0 : Dev nD) : Nat :=
  let c0_i32_195 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_194 : BitVec 32 := 2#32
  let v284 : BitVec 32 := Scalar.muli v2 c2_i32_194
  let v285 : BitVec 32 := Scalar.addi c0_i32_195 v284
  let c1_i32_192 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v283 : BitVec 32 := Scalar.subi c1_i32_192 v5
  let c1_i32_196 : BitVec 32 := 1#32
  let v286 : BitVec 32 := Scalar.muli v283 c1_i32_196
  let v287 : BitVec 32 := Scalar.addi v285 v286
  v287.toNat
def k0_dev26 (d0 : Dev nD) : Nat :=
  let c0_i32_203 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_202 : BitVec 32 := 2#32
  let v296 : BitVec 32 := Scalar.muli v2 c2_i32_202
  let v297 : BitVec 32 := Scalar.addi c0_i32_203 v296
  let c1_i32_200 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v295 : BitVec 32 := Scalar.subi c1_i32_200 v5
  let c1_i32_204 : BitVec 32 := 1#32
  let v298 : BitVec 32 := Scalar.muli v295 c1_i32_204
  let v299 : BitVec 32 := Scalar.addi v297 v298
  v299.toNat
def k0_dev27 (d0 : Dev nD) : Nat :=
  let c0_i32_211 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_210 : BitVec 32 := 2#32
  let v308 : BitVec 32 := Scalar.muli v2 c2_i32_210
  let v309 : BitVec 32 := Scalar.addi c0_i32_211 v308
  let c1_i32_208 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v307 : BitVec 32 := Scalar.subi c1_i32_208 v5
  let c1_i32_212 : BitVec 32 := 1#32
  let v310 : BitVec 32 := Scalar.muli v307 c1_i32_212
  let v311 : BitVec 32 := Scalar.addi v309 v310
  v311.toNat
def k0_dev28 (d0 : Dev nD) : Nat :=
  let c0_i32_219 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_218 : BitVec 32 := 2#32
  let v320 : BitVec 32 := Scalar.muli v2 c2_i32_218
  let v321 : BitVec 32 := Scalar.addi c0_i32_219 v320
  let c1_i32_216 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v319 : BitVec 32 := Scalar.subi c1_i32_216 v5
  let c1_i32_220 : BitVec 32 := 1#32
  let v322 : BitVec 32 := Scalar.muli v319 c1_i32_220
  let v323 : BitVec 32 := Scalar.addi v321 v322
  v323.toNat
def k0_dev29 (d0 : Dev nD) : Nat :=
  let c0_i32_227 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_226 : BitVec 32 := 2#32
  let v332 : BitVec 32 := Scalar.muli v2 c2_i32_226
  let v333 : BitVec 32 := Scalar.addi c0_i32_227 v332
  let c1_i32_224 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v331 : BitVec 32 := Scalar.subi c1_i32_224 v5
  let c1_i32_228 : BitVec 32 := 1#32
  let v334 : BitVec 32 := Scalar.muli v331 c1_i32_228
  let v335 : BitVec 32 := Scalar.addi v333 v334
  v335.toNat
def k0_dev30 (d0 : Dev nD) : Nat :=
  let c0_i32_235 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_234 : BitVec 32 := 2#32
  let v344 : BitVec 32 := Scalar.muli v2 c2_i32_234
  let v345 : BitVec 32 := Scalar.addi c0_i32_235 v344
  let c1_i32_232 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v343 : BitVec 32 := Scalar.subi c1_i32_232 v5
  let c1_i32_236 : BitVec 32 := 1#32
  let v346 : BitVec 32 := Scalar.muli v343 c1_i32_236
  let v347 : BitVec 32 := Scalar.addi v345 v346
  v347.toNat
def k0_dev31 (d0 : Dev nD) : Nat :=
  let c0_i32_243 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_242 : BitVec 32 := 2#32
  let v356 : BitVec 32 := Scalar.muli v2 c2_i32_242
  let v357 : BitVec 32 := Scalar.addi c0_i32_243 v356
  let c1_i32_240 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v355 : BitVec 32 := Scalar.subi c1_i32_240 v5
  let c1_i32_244 : BitVec 32 := 1#32
  let v358 : BitVec 32 := Scalar.muli v355 c1_i32_244
  let v359 : BitVec 32 := Scalar.addi v357 v358
  v359.toNat
def k0_dev32 (d0 : Dev nD) : Nat :=
  let c0_i32_251 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_250 : BitVec 32 := 2#32
  let v368 : BitVec 32 := Scalar.muli v2 c2_i32_250
  let v369 : BitVec 32 := Scalar.addi c0_i32_251 v368
  let c1_i32_248 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v367 : BitVec 32 := Scalar.subi c1_i32_248 v5
  let c1_i32_252 : BitVec 32 := 1#32
  let v370 : BitVec 32 := Scalar.muli v367 c1_i32_252
  let v371 : BitVec 32 := Scalar.addi v369 v370
  v371.toNat
def k0_dev33 (d0 : Dev nD) : Nat :=
  let c0_i32_259 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_258 : BitVec 32 := 2#32
  let v380 : BitVec 32 := Scalar.muli v2 c2_i32_258
  let v381 : BitVec 32 := Scalar.addi c0_i32_259 v380
  let c1_i32_256 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v379 : BitVec 32 := Scalar.subi c1_i32_256 v5
  let c1_i32_260 : BitVec 32 := 1#32
  let v382 : BitVec 32 := Scalar.muli v379 c1_i32_260
  let v383 : BitVec 32 := Scalar.addi v381 v382
  v383.toNat
def k0_dev34 (d0 : Dev nD) : Nat :=
  let c0_i32_267 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_266 : BitVec 32 := 2#32
  let v392 : BitVec 32 := Scalar.muli v2 c2_i32_266
  let v393 : BitVec 32 := Scalar.addi c0_i32_267 v392
  let c1_i32_264 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v391 : BitVec 32 := Scalar.subi c1_i32_264 v5
  let c1_i32_268 : BitVec 32 := 1#32
  let v394 : BitVec 32 := Scalar.muli v391 c1_i32_268
  let v395 : BitVec 32 := Scalar.addi v393 v394
  v395.toNat
def k0_off2 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v17 : BitVec 32 := Scalar.muli v2 c4096_i32
  let c0_i32_272 : BitVec 32 := 0#32
  ![v17.toNat, 0]
def k0_dev35 (d0 : Dev nD) : Nat :=
  let c0_i32_299 : BitVec 32 := 0#32
  let c1_i32_295 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v426 : BitVec 32 := Scalar.subi c1_i32_295 v2
  let c2_i32_298 : BitVec 32 := 2#32
  let v427 : BitVec 32 := Scalar.muli v426 c2_i32_298
  let v428 : BitVec 32 := Scalar.addi c0_i32_299 v427
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_300 : BitVec 32 := 1#32
  let v429 : BitVec 32 := Scalar.muli v5 c1_i32_300
  let v430 : BitVec 32 := Scalar.addi v428 v429
  v430.toNat
def k0_dev36 (d0 : Dev nD) : Nat :=
  let c0_i32_329 : BitVec 32 := 0#32
  let c1_i32_325 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v459 : BitVec 32 := Scalar.subi c1_i32_325 v2
  let c2_i32_328 : BitVec 32 := 2#32
  let v460 : BitVec 32 := Scalar.muli v459 c2_i32_328
  let v461 : BitVec 32 := Scalar.addi c0_i32_329 v460
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_330 : BitVec 32 := 1#32
  let v462 : BitVec 32 := Scalar.muli v5 c1_i32_330
  let v463 : BitVec 32 := Scalar.addi v461 v462
  v463.toNat
def k0_dev37 (d0 : Dev nD) : Nat :=
  let c0_i32_359 : BitVec 32 := 0#32
  let c1_i32_355 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v492 : BitVec 32 := Scalar.subi c1_i32_355 v2
  let c2_i32_358 : BitVec 32 := 2#32
  let v493 : BitVec 32 := Scalar.muli v492 c2_i32_358
  let v494 : BitVec 32 := Scalar.addi c0_i32_359 v493
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_360 : BitVec 32 := 1#32
  let v495 : BitVec 32 := Scalar.muli v5 c1_i32_360
  let v496 : BitVec 32 := Scalar.addi v494 v495
  v496.toNat
def k0_dev38 (d0 : Dev nD) : Nat :=
  let c0_i32_389 : BitVec 32 := 0#32
  let c1_i32_385 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v525 : BitVec 32 := Scalar.subi c1_i32_385 v2
  let c2_i32_388 : BitVec 32 := 2#32
  let v526 : BitVec 32 := Scalar.muli v525 c2_i32_388
  let v527 : BitVec 32 := Scalar.addi c0_i32_389 v526
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_390 : BitVec 32 := 1#32
  let v528 : BitVec 32 := Scalar.muli v5 c1_i32_390
  let v529 : BitVec 32 := Scalar.addi v527 v528
  v529.toNat
def k0_dev39 (d0 : Dev nD) : Nat :=
  let c0_i32_419 : BitVec 32 := 0#32
  let c1_i32_415 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v558 : BitVec 32 := Scalar.subi c1_i32_415 v2
  let c2_i32_418 : BitVec 32 := 2#32
  let v559 : BitVec 32 := Scalar.muli v558 c2_i32_418
  let v560 : BitVec 32 := Scalar.addi c0_i32_419 v559
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_420 : BitVec 32 := 1#32
  let v561 : BitVec 32 := Scalar.muli v5 c1_i32_420
  let v562 : BitVec 32 := Scalar.addi v560 v561
  v562.toNat
def k0_dev40 (d0 : Dev nD) : Nat :=
  let c0_i32_449 : BitVec 32 := 0#32
  let c1_i32_445 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v591 : BitVec 32 := Scalar.subi c1_i32_445 v2
  let c2_i32_448 : BitVec 32 := 2#32
  let v592 : BitVec 32 := Scalar.muli v591 c2_i32_448
  let v593 : BitVec 32 := Scalar.addi c0_i32_449 v592
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_450 : BitVec 32 := 1#32
  let v594 : BitVec 32 := Scalar.muli v5 c1_i32_450
  let v595 : BitVec 32 := Scalar.addi v593 v594
  v595.toNat
def k0_dev41 (d0 : Dev nD) : Nat :=
  let c0_i32_479 : BitVec 32 := 0#32
  let c1_i32_475 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v624 : BitVec 32 := Scalar.subi c1_i32_475 v2
  let c2_i32_478 : BitVec 32 := 2#32
  let v625 : BitVec 32 := Scalar.muli v624 c2_i32_478
  let v626 : BitVec 32 := Scalar.addi c0_i32_479 v625
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_480 : BitVec 32 := 1#32
  let v627 : BitVec 32 := Scalar.muli v5 c1_i32_480
  let v628 : BitVec 32 := Scalar.addi v626 v627
  v628.toNat
def k0_dev42 (d0 : Dev nD) : Nat :=
  let c0_i32_509 : BitVec 32 := 0#32
  let c1_i32_505 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v657 : BitVec 32 := Scalar.subi c1_i32_505 v2
  let c2_i32_508 : BitVec 32 := 2#32
  let v658 : BitVec 32 := Scalar.muli v657 c2_i32_508
  let v659 : BitVec 32 := Scalar.addi c0_i32_509 v658
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_510 : BitVec 32 := 1#32
  let v660 : BitVec 32 := Scalar.muli v5 c1_i32_510
  let v661 : BitVec 32 := Scalar.addi v659 v660
  v661.toNat
def k0_dev43 (d0 : Dev nD) : Nat :=
  let c0_i32_539 : BitVec 32 := 0#32
  let c1_i32_535 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v690 : BitVec 32 := Scalar.subi c1_i32_535 v2
  let c2_i32_538 : BitVec 32 := 2#32
  let v691 : BitVec 32 := Scalar.muli v690 c2_i32_538
  let v692 : BitVec 32 := Scalar.addi c0_i32_539 v691
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_540 : BitVec 32 := 1#32
  let v693 : BitVec 32 := Scalar.muli v5 c1_i32_540
  let v694 : BitVec 32 := Scalar.addi v692 v693
  v694.toNat
def k0_dev44 (d0 : Dev nD) : Nat :=
  let c0_i32_569 : BitVec 32 := 0#32
  let c1_i32_565 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v723 : BitVec 32 := Scalar.subi c1_i32_565 v2
  let c2_i32_568 : BitVec 32 := 2#32
  let v724 : BitVec 32 := Scalar.muli v723 c2_i32_568
  let v725 : BitVec 32 := Scalar.addi c0_i32_569 v724
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_570 : BitVec 32 := 1#32
  let v726 : BitVec 32 := Scalar.muli v5 c1_i32_570
  let v727 : BitVec 32 := Scalar.addi v725 v726
  v727.toNat
def k0_dev45 (d0 : Dev nD) : Nat :=
  let c0_i32_599 : BitVec 32 := 0#32
  let c1_i32_595 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v756 : BitVec 32 := Scalar.subi c1_i32_595 v2
  let c2_i32_598 : BitVec 32 := 2#32
  let v757 : BitVec 32 := Scalar.muli v756 c2_i32_598
  let v758 : BitVec 32 := Scalar.addi c0_i32_599 v757
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_600 : BitVec 32 := 1#32
  let v759 : BitVec 32 := Scalar.muli v5 c1_i32_600
  let v760 : BitVec 32 := Scalar.addi v758 v759
  v760.toNat
def k0_dev46 (d0 : Dev nD) : Nat :=
  let c0_i32_629 : BitVec 32 := 0#32
  let c1_i32_625 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v789 : BitVec 32 := Scalar.subi c1_i32_625 v2
  let c2_i32_628 : BitVec 32 := 2#32
  let v790 : BitVec 32 := Scalar.muli v789 c2_i32_628
  let v791 : BitVec 32 := Scalar.addi c0_i32_629 v790
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_630 : BitVec 32 := 1#32
  let v792 : BitVec 32 := Scalar.muli v5 c1_i32_630
  let v793 : BitVec 32 := Scalar.addi v791 v792
  v793.toNat
def k0_dev47 (d0 : Dev nD) : Nat :=
  let c0_i32_659 : BitVec 32 := 0#32
  let c1_i32_655 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v822 : BitVec 32 := Scalar.subi c1_i32_655 v2
  let c2_i32_658 : BitVec 32 := 2#32
  let v823 : BitVec 32 := Scalar.muli v822 c2_i32_658
  let v824 : BitVec 32 := Scalar.addi c0_i32_659 v823
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_660 : BitVec 32 := 1#32
  let v825 : BitVec 32 := Scalar.muli v5 c1_i32_660
  let v826 : BitVec 32 := Scalar.addi v824 v825
  v826.toNat
def k0_dev48 (d0 : Dev nD) : Nat :=
  let c0_i32_689 : BitVec 32 := 0#32
  let c1_i32_685 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v855 : BitVec 32 := Scalar.subi c1_i32_685 v2
  let c2_i32_688 : BitVec 32 := 2#32
  let v856 : BitVec 32 := Scalar.muli v855 c2_i32_688
  let v857 : BitVec 32 := Scalar.addi c0_i32_689 v856
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_690 : BitVec 32 := 1#32
  let v858 : BitVec 32 := Scalar.muli v5 c1_i32_690
  let v859 : BitVec 32 := Scalar.addi v857 v858
  v859.toNat
def k0_dev49 (d0 : Dev nD) : Nat :=
  let c0_i32_719 : BitVec 32 := 0#32
  let c1_i32_715 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v888 : BitVec 32 := Scalar.subi c1_i32_715 v2
  let c2_i32_718 : BitVec 32 := 2#32
  let v889 : BitVec 32 := Scalar.muli v888 c2_i32_718
  let v890 : BitVec 32 := Scalar.addi c0_i32_719 v889
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_720 : BitVec 32 := 1#32
  let v891 : BitVec 32 := Scalar.muli v5 c1_i32_720
  let v892 : BitVec 32 := Scalar.addi v890 v891
  v892.toNat
def k0_dev50 (d0 : Dev nD) : Nat :=
  let c0_i32_749 : BitVec 32 := 0#32
  let c1_i32_745 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v921 : BitVec 32 := Scalar.subi c1_i32_745 v2
  let c2_i32_748 : BitVec 32 := 2#32
  let v922 : BitVec 32 := Scalar.muli v921 c2_i32_748
  let v923 : BitVec 32 := Scalar.addi c0_i32_749 v922
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_750 : BitVec 32 := 1#32
  let v924 : BitVec 32 := Scalar.muli v5 c1_i32_750
  let v925 : BitVec 32 := Scalar.addi v923 v924
  v925.toNat
def k0_dev51 (d0 : Dev nD) : Nat :=
  let c0_i32_779 : BitVec 32 := 0#32
  let c1_i32_775 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v954 : BitVec 32 := Scalar.subi c1_i32_775 v2
  let c2_i32_778 : BitVec 32 := 2#32
  let v955 : BitVec 32 := Scalar.muli v954 c2_i32_778
  let v956 : BitVec 32 := Scalar.addi c0_i32_779 v955
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_780 : BitVec 32 := 1#32
  let v957 : BitVec 32 := Scalar.muli v5 c1_i32_780
  let v958 : BitVec 32 := Scalar.addi v956 v957
  v958.toNat
def k0_dev52 (d0 : Dev nD) : Nat :=
  let c0_i32_809 : BitVec 32 := 0#32
  let c1_i32_805 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v987 : BitVec 32 := Scalar.subi c1_i32_805 v2
  let c2_i32_808 : BitVec 32 := 2#32
  let v988 : BitVec 32 := Scalar.muli v987 c2_i32_808
  let v989 : BitVec 32 := Scalar.addi c0_i32_809 v988
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_810 : BitVec 32 := 1#32
  let v990 : BitVec 32 := Scalar.muli v5 c1_i32_810
  let v991 : BitVec 32 := Scalar.addi v989 v990
  v991.toNat
def k0_dev53 (d0 : Dev nD) : Nat :=
  let c0_i32_839 : BitVec 32 := 0#32
  let c1_i32_835 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1020 : BitVec 32 := Scalar.subi c1_i32_835 v2
  let c2_i32_838 : BitVec 32 := 2#32
  let v1021 : BitVec 32 := Scalar.muli v1020 c2_i32_838
  let v1022 : BitVec 32 := Scalar.addi c0_i32_839 v1021
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_840 : BitVec 32 := 1#32
  let v1023 : BitVec 32 := Scalar.muli v5 c1_i32_840
  let v1024 : BitVec 32 := Scalar.addi v1022 v1023
  v1024.toNat
def k0_dev54 (d0 : Dev nD) : Nat :=
  let c0_i32_869 : BitVec 32 := 0#32
  let c1_i32_865 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1053 : BitVec 32 := Scalar.subi c1_i32_865 v2
  let c2_i32_868 : BitVec 32 := 2#32
  let v1054 : BitVec 32 := Scalar.muli v1053 c2_i32_868
  let v1055 : BitVec 32 := Scalar.addi c0_i32_869 v1054
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_870 : BitVec 32 := 1#32
  let v1056 : BitVec 32 := Scalar.muli v5 c1_i32_870
  let v1057 : BitVec 32 := Scalar.addi v1055 v1056
  v1057.toNat
def k0_dev55 (d0 : Dev nD) : Nat :=
  let c0_i32_899 : BitVec 32 := 0#32
  let c1_i32_895 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1086 : BitVec 32 := Scalar.subi c1_i32_895 v2
  let c2_i32_898 : BitVec 32 := 2#32
  let v1087 : BitVec 32 := Scalar.muli v1086 c2_i32_898
  let v1088 : BitVec 32 := Scalar.addi c0_i32_899 v1087
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_900 : BitVec 32 := 1#32
  let v1089 : BitVec 32 := Scalar.muli v5 c1_i32_900
  let v1090 : BitVec 32 := Scalar.addi v1088 v1089
  v1090.toNat
def k0_dev56 (d0 : Dev nD) : Nat :=
  let c0_i32_929 : BitVec 32 := 0#32
  let c1_i32_925 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1119 : BitVec 32 := Scalar.subi c1_i32_925 v2
  let c2_i32_928 : BitVec 32 := 2#32
  let v1120 : BitVec 32 := Scalar.muli v1119 c2_i32_928
  let v1121 : BitVec 32 := Scalar.addi c0_i32_929 v1120
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_930 : BitVec 32 := 1#32
  let v1122 : BitVec 32 := Scalar.muli v5 c1_i32_930
  let v1123 : BitVec 32 := Scalar.addi v1121 v1122
  v1123.toNat
def k0_dev57 (d0 : Dev nD) : Nat :=
  let c0_i32_959 : BitVec 32 := 0#32
  let c1_i32_955 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1152 : BitVec 32 := Scalar.subi c1_i32_955 v2
  let c2_i32_958 : BitVec 32 := 2#32
  let v1153 : BitVec 32 := Scalar.muli v1152 c2_i32_958
  let v1154 : BitVec 32 := Scalar.addi c0_i32_959 v1153
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_960 : BitVec 32 := 1#32
  let v1155 : BitVec 32 := Scalar.muli v5 c1_i32_960
  let v1156 : BitVec 32 := Scalar.addi v1154 v1155
  v1156.toNat
def k0_dev58 (d0 : Dev nD) : Nat :=
  let c0_i32_989 : BitVec 32 := 0#32
  let c1_i32_985 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1185 : BitVec 32 := Scalar.subi c1_i32_985 v2
  let c2_i32_988 : BitVec 32 := 2#32
  let v1186 : BitVec 32 := Scalar.muli v1185 c2_i32_988
  let v1187 : BitVec 32 := Scalar.addi c0_i32_989 v1186
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_990 : BitVec 32 := 1#32
  let v1188 : BitVec 32 := Scalar.muli v5 c1_i32_990
  let v1189 : BitVec 32 := Scalar.addi v1187 v1188
  v1189.toNat
def k0_dev59 (d0 : Dev nD) : Nat :=
  let c0_i32_1019 : BitVec 32 := 0#32
  let c1_i32_1015 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1218 : BitVec 32 := Scalar.subi c1_i32_1015 v2
  let c2_i32_1018 : BitVec 32 := 2#32
  let v1219 : BitVec 32 := Scalar.muli v1218 c2_i32_1018
  let v1220 : BitVec 32 := Scalar.addi c0_i32_1019 v1219
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1020 : BitVec 32 := 1#32
  let v1221 : BitVec 32 := Scalar.muli v5 c1_i32_1020
  let v1222 : BitVec 32 := Scalar.addi v1220 v1221
  v1222.toNat
def k0_dev60 (d0 : Dev nD) : Nat :=
  let c0_i32_1049 : BitVec 32 := 0#32
  let c1_i32_1045 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1251 : BitVec 32 := Scalar.subi c1_i32_1045 v2
  let c2_i32_1048 : BitVec 32 := 2#32
  let v1252 : BitVec 32 := Scalar.muli v1251 c2_i32_1048
  let v1253 : BitVec 32 := Scalar.addi c0_i32_1049 v1252
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1050 : BitVec 32 := 1#32
  let v1254 : BitVec 32 := Scalar.muli v5 c1_i32_1050
  let v1255 : BitVec 32 := Scalar.addi v1253 v1254
  v1255.toNat
def k0_dev61 (d0 : Dev nD) : Nat :=
  let c0_i32_1079 : BitVec 32 := 0#32
  let c1_i32_1075 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1284 : BitVec 32 := Scalar.subi c1_i32_1075 v2
  let c2_i32_1078 : BitVec 32 := 2#32
  let v1285 : BitVec 32 := Scalar.muli v1284 c2_i32_1078
  let v1286 : BitVec 32 := Scalar.addi c0_i32_1079 v1285
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1080 : BitVec 32 := 1#32
  let v1287 : BitVec 32 := Scalar.muli v5 c1_i32_1080
  let v1288 : BitVec 32 := Scalar.addi v1286 v1287
  v1288.toNat
def k0_dev62 (d0 : Dev nD) : Nat :=
  let c0_i32_1109 : BitVec 32 := 0#32
  let c1_i32_1105 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1317 : BitVec 32 := Scalar.subi c1_i32_1105 v2
  let c2_i32_1108 : BitVec 32 := 2#32
  let v1318 : BitVec 32 := Scalar.muli v1317 c2_i32_1108
  let v1319 : BitVec 32 := Scalar.addi c0_i32_1109 v1318
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1110 : BitVec 32 := 1#32
  let v1320 : BitVec 32 := Scalar.muli v5 c1_i32_1110
  let v1321 : BitVec 32 := Scalar.addi v1319 v1320
  v1321.toNat
def k0_dev63 (d0 : Dev nD) : Nat :=
  let c0_i32_1139 : BitVec 32 := 0#32
  let c1_i32_1135 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1350 : BitVec 32 := Scalar.subi c1_i32_1135 v2
  let c2_i32_1138 : BitVec 32 := 2#32
  let v1351 : BitVec 32 := Scalar.muli v1350 c2_i32_1138
  let v1352 : BitVec 32 := Scalar.addi c0_i32_1139 v1351
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1140 : BitVec 32 := 1#32
  let v1353 : BitVec 32 := Scalar.muli v5 c1_i32_1140
  let v1354 : BitVec 32 := Scalar.addi v1352 v1353
  v1354.toNat
def k0_dev64 (d0 : Dev nD) : Nat :=
  let c0_i32_1169 : BitVec 32 := 0#32
  let c1_i32_1165 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1383 : BitVec 32 := Scalar.subi c1_i32_1165 v2
  let c2_i32_1168 : BitVec 32 := 2#32
  let v1384 : BitVec 32 := Scalar.muli v1383 c2_i32_1168
  let v1385 : BitVec 32 := Scalar.addi c0_i32_1169 v1384
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1170 : BitVec 32 := 1#32
  let v1386 : BitVec 32 := Scalar.muli v5 c1_i32_1170
  let v1387 : BitVec 32 := Scalar.addi v1385 v1386
  v1387.toNat
def k0_dev65 (d0 : Dev nD) : Nat :=
  let c0_i32_1199 : BitVec 32 := 0#32
  let c1_i32_1195 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1416 : BitVec 32 := Scalar.subi c1_i32_1195 v2
  let c2_i32_1198 : BitVec 32 := 2#32
  let v1417 : BitVec 32 := Scalar.muli v1416 c2_i32_1198
  let v1418 : BitVec 32 := Scalar.addi c0_i32_1199 v1417
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1200 : BitVec 32 := 1#32
  let v1419 : BitVec 32 := Scalar.muli v5 c1_i32_1200
  let v1420 : BitVec 32 := Scalar.addi v1418 v1419
  v1420.toNat
def k0_dev66 (d0 : Dev nD) : Nat :=
  let c0_i32_1229 : BitVec 32 := 0#32
  let c1_i32_1225 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1449 : BitVec 32 := Scalar.subi c1_i32_1225 v2
  let c2_i32_1228 : BitVec 32 := 2#32
  let v1450 : BitVec 32 := Scalar.muli v1449 c2_i32_1228
  let v1451 : BitVec 32 := Scalar.addi c0_i32_1229 v1450
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1230 : BitVec 32 := 1#32
  let v1452 : BitVec 32 := Scalar.muli v5 c1_i32_1230
  let v1453 : BitVec 32 := Scalar.addi v1451 v1452
  v1453.toNat
-- ==== ReferenceIdeal.lean ====
abbrev S16384x1024 : Shape := ⟨2, ![16384, 1024]⟩
abbrev S2x8192x1024 : Shape := ⟨3, ![2, 8192, 1024]⟩
abbrev S_ : Shape := ⟨0, ![]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8192x1024, .f32⟩
  | .hbm, ⟨2, _⟩ => ⟨S_, .f32⟩
  | .hbm, ⟨3, _⟩ => ⟨S8192x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Uniform.lean ====
/-
# The kernel's body as a program over the chunk index

The printed body writes every chunk out. Here it is once: three loops over the 32 chunks, each a step with the chunk
index as its parameter, and `cc0_body_uniform` states that the printed body is that program.
-/
module

public import proofs.«01_k».proof.Proof.Gen.KernelIdeal
public import proofs.«01_k».proof.Proof.Gen.KernelIdeal.Skeleton
public import Idealize.ShloMosaic.Lib.Pipeline.Regions

@[expose] public section

noncomputable section

namespace Cert.AllReduce

open Cert.KernelIdeal Cert.KernelIdeal.Gen
open Idealize.ShloMosaic Idealize.ShloMosaic.TcCoe
open Idealize.SL.Sem

variable {F : FTy → Type} [FloatOps F]

/-! ## The buffers, their chunks and the semaphores -/

/-- The device's block of `x`. -/
abbrev xM : Memref sig .tc .hbm S8192x1024 .f32 := Memref.whole main_arg0
/-- The device's result. -/
abbrev oM : Memref sig .tc .hbm S8192x1024 .f32 := Memref.whole main_v1
/-- The device's own half of its block, and then of the sum. -/
abbrev lM : Memref sig .tc .vmem S4096x1024 .f32 := Memref.whole cc0_scratch0
/-- The same half of the y-neighbour's block, as it arrives. -/
abbrev rM : Memref sig .tc .vmem S4096x1024 .f32 := Memref.whole cc0_scratch1

/-- Chunk `i` lies inside a buffer of 4096 rows. -/
theorem inbChunk (i : Fin 32) : ∀ a, (![128 * i.val, 0] : Fin 2 → Nat) a + S128x1024.size a ≤ S4096x1024.size a := by
  revert i; decide
/-- Place `i` lies inside a semaphore array of 32. -/
theorem inbSem (i : Fin 32) : ∀ a, (![i.val] : Fin 1 → Nat) a + S1.size a ≤ S32.size a := by
  revert i; decide

/-- Chunk `i`'s rectangle of a buffer of 4096 rows. -/
abbrev chunk (i : Fin 32) : Rect S4096x1024 := Rect.unit (s := S4096x1024) ![128 * i.val, 0] S128x1024.size (inbChunk i)
/-- Chunk `i` of device `d`'s half, as a rectangle of a buffer of 8192 rows. -/
abbrev hchunk (d : Dev nD) (i : Fin 32) : Rect S8192x1024 :=
  Rect.unit (s := S8192x1024) (k0_off1 d (BitVec.ofNat 32 (128 * i.val))) S128x1024.size (k0_off1_inb d i)

/-- Chunk `i` of device `d`'s half of the rows, in `x`. -/
abbrev xRow (d : Dev nD) (i : Fin 32) : Memref sig .tc .hbm S128x1024 .f32 := xM.slice (hchunk d i) (fun _ => rfl)
/-- Chunk `i` of device `d`'s half of the rows, in the result. -/
abbrev oRow (d : Dev nD) (i : Fin 32) : Memref sig .tc .hbm S128x1024 .f32 := oM.slice (hchunk d i) (fun _ => rfl)
/-- Chunk `i` of a device's own buffer. -/
abbrev lRow (i : Fin 32) : Memref sig .tc .vmem S128x1024 .f32 := lM.slice (chunk i) (fun _ => rfl)
/-- Chunk `i` of the receive buffer. -/
abbrev rRow (i : Fin 32) : Memref sig .tc .vmem S128x1024 .f32 := rM.slice (chunk i) (fun _ => rfl)
/-- Device `d`'s half of its block. -/
abbrev xHalf (d : Dev nD) : Memref sig .tc .hbm S4096x1024 .f32 :=
  xM.slice (Rect.unit (s := S8192x1024) (k0_off2 d) S4096x1024.size (k0_off2_inb d)) (fun _ => rfl)

/-- Place `i` of a semaphore array. -/
abbrev semAt (s : DmaSems sig S32) (i : Fin 32) : DmaSem sig :=
  ((s.slice (Rect.unit (s := S32) ![i.val] S1.size (inbSem i))).squeeze S_ squeezes_S1_S_).sem

/-- The load's semaphore. -/
abbrev loadS : DmaSem sig := cc0_scratch2.sem
/-- Chunk `i`'s semaphore of the store. -/
abbrev storeS (i : Fin 32) : DmaSem sig := semAt cc0_scratch3 i
/-- Chunk `i`'s semaphore of the send to the y-neighbour. -/
abbrev ysendS (i : Fin 32) : DmaSem sig := semAt cc0_scratch4 i
/-- Chunk `i`'s semaphore of the receipt from the y-neighbour. -/
abbrev yrecvS (i : Fin 32) : DmaSem sig := semAt cc0_scratch5 i
/-- Chunk `i`'s semaphore of the send to the x-neighbour. -/
abbrev xsendS (i : Fin 32) : DmaSem sig := semAt cc0_scratch6 i
/-- Chunk `i`'s semaphore of the receipt from the x-neighbour. -/
abbrev xrecvS (i : Fin 32) : DmaSem sig := semAt cc0_scratch7 i
/-- The runtime's barrier semaphore. -/
abbrev barS : Sem sig := (SemArray.scalar (sig.barrier 0 rfl) : Sems sig S_).sem

/-- The neighbour along y: the device holding the other block of `x`, reducing the same half. -/
def yDev (d : Dev nD) : Dev nD := ⟨k0_dev1 d, k0_dev1_lt d⟩
/-- The neighbour along x: the device holding the same block of `x`, reducing the other half. -/
def xDev (d : Dev nD) : Dev nD := ⟨k0_dev2 d, k0_dev2_lt d⟩

/-! ## The steps -/

/-- A program of the kernel. -/
abbrev KProg (F : FTy → Type) : Type 1 := Prog (TpuEff nD τ sig (Elt F) Λ₀ .tc) PUnit

/-- Send chunk `i` of the own half of `x` to the y-neighbour. -/
def sendY (d : Dev nD) (i : Fin 32) (k : KProg F) : KProg F :=
  .op (.enqueueDma (xRow d i) (.remote (Dev.tc (yDev d)) (rRow i) (.dma (ysendS i))) (.dma (yrecvS i))
    (View.wordExact_bits rfl) (View.wordExact_bits rfl) ⟨⟨rfl, Or.inl rfl⟩, trivial⟩) fun _ => k

/-- Copy the own half of `x` in, and wait for it. -/
def loadHalf (d : Dev nD) (k : KProg F) : KProg F :=
  .op (.enqueueDma (xHalf d) (.here lM) (.dma loadS) (View.wordExact_bits rfl) (Memref.isWhole_whole _).wordExact ⟨Or.inl rfl, trivial⟩) fun _ =>
  .op (.waitDma2 loadS (xHalf d) lM (View.wordExact_bits rfl) (Memref.isWhole_whole _).wordExact) fun _ => k

/-- Wait for the y-neighbour's chunk `i`, add it, and start writing the sum to the own result and to the x-neighbour's. -/
def reduceChunk (d : Dev nD) (i : Fin 32) (k : KProg F) : KProg F :=
  .op (.waitDma2 (yrecvS i) (xRow d i) (rRow i) (View.wordExact_bits rfl) (View.wordExact_bits rfl)) fun _ =>
  .op (.load lM (chunk i).toLoadRect (View.loadsAt_vmem h_S128x1024)) fun a =>
  .op (.load rM (chunk i).toLoadRect (View.loadsAt_vmem h_S128x1024)) fun b =>
  .op (.load lM (chunk i).toLoadRect (View.loadsAt_vmem h_S128x1024)) fun _ =>
  .op (.store lM (chunk i) (k0_pay1 a b) Finset.univ (View.stores_vmem_bits_univ h_S128x1024 rfl) (.inl rfl)) fun _ =>
  .op (.enqueueDma (lRow i) (.here (oRow d i)) (.dma (storeS i)) (View.wordExact_bits rfl) (View.wordExact_bits rfl) ⟨Or.inl rfl, trivial⟩) fun _ =>
  .op (.enqueueDma (lRow i) (.remote (Dev.tc (xDev d)) (oRow d i) (.dma (xsendS i))) (.dma (xrecvS i))
    (View.wordExact_bits rfl) (View.wordExact_bits rfl) ⟨⟨rfl, Or.inl rfl⟩, trivial⟩) fun _ => k

/-- Wait for the four transfers of chunk `i` still in flight. -/
def drainChunk (d : Dev nD) (i : Fin 32) (k : KProg F) : KProg F :=
  .op (.waitDma2 (storeS i) (lRow i) (oRow d i) (View.wordExact_bits rfl) (View.wordExact_bits rfl)) fun _ =>
  .op (.waitDma2 (ysendS i) (rRow i) (xRow d i) (View.wordExact_bits rfl) (View.wordExact_bits rfl)) fun _ =>
  .op (.waitDma2 (xsendS i) (oRow d i) (lRow i) (View.wordExact_bits rfl) (View.wordExact_bits rfl)) fun _ =>
  .op (.waitDma2 (xrecvS i) (lRow i) (oRow d i) (View.wordExact_bits rfl) (View.wordExact_bits rfl)) fun _ => k

/-- A step for each chunk of a list, in order, then `k`. -/
def each (f : Fin 32 → KProg F → KProg F) : List (Fin 32) → KProg F → KProg F
  | [], k => k
  | i :: l, k => f i (each f l k)

/-- The chunks in order. -/
abbrev chunks : List (Fin 32) := [0, 1, 2, 3, 4, 5, 6, 7, 8, 9, 10, 11, 12, 13, 14, 15, 16, 17, 18, 19, 20, 21, 22, 23, 24, 25, 26, 27, 28, 29, 30, 31]

/-- The three loops, after the barrier. -/
def loops (d : Dev nD) : KProg F :=
  each (sendY d) chunks <| loadHalf d <| each (reduceChunk d) chunks <| each (drainChunk d) chunks <| .ret ⟨⟩

/-- The body on device `d`: the barrier with both neighbours, then the loops. -/
def bodyOn (d : Dev nD) : KProg F :=
  .op (.semSignal (Dev.tc (yDev d)) barS 1) fun _ =>
  .op (.semSignal (Dev.tc (xDev d)) barS 1) fun _ =>
  .op (.semWait barS 2) fun _ => loops d

set_option maxRecDepth 65536 in
set_option maxHeartbeats 0 in
/-- The printed body is `bodyOn` at the device that runs it. -/
theorem cc0_body_uniform :
    cc0_body (F := F) xM (Memref.isWhole_whole _) oM (Memref.isWhole_whole _) lM (Memref.isWhole_whole _) rM (Memref.isWhole_whole _)
      cc0_scratch2 cc0_scratch3 cc0_scratch4 cc0_scratch5 cc0_scratch6 cc0_scratch7
      = .op .deviceId fun d => bodyOn d := by
  rw [cc0_body_eq_skeleton]
  unfold cc0_body_skel
  simp only [k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton,
    k0_part12_skel, k0_part13_eq_skeleton, k0_part13_skel, k0_part14_eq_skeleton, k0_part14_skel,
    k0_part15_eq_skeleton, k0_part15_skel, k0_part16_eq_skeleton, k0_part16_skel, k0_part17_eq_skeleton,
    k0_part17_skel, k0_part18_eq_skeleton, k0_part18_skel, k0_part19_eq_skeleton, k0_part19_skel,
    k0_part20_eq_skeleton, k0_part20_skel, k0_part21_eq_skeleton, k0_part21_skel, k0_part22_eq_skeleton,
    k0_part22_skel, k0_part23_eq_skeleton, k0_part23_skel, k0_part24_eq_skeleton, k0_part24_skel,
    k0_part25_eq_skeleton, k0_part25_skel, k0_part26_eq_skeleton, k0_part26_skel, k0_part27_eq_skeleton,
    k0_part27_skel, k0_part28_eq_skeleton, k0_part28_skel, k0_part29_eq_skeleton, k0_part29_skel,
    k0_part30_eq_skeleton, k0_part30_skel, k0_part31_eq_skeleton, k0_part31_skel, k0_part32_eq_skeleton,
    k0_part32_skel, k0_part33_eq_skeleton, k0_part33_skel, k0_part34_eq_skeleton, k0_part34_skel,
    k0_part35_eq_skeleton, k0_part35_skel, k0_part36_eq_skeleton, k0_part36_skel, k0_part37_eq_skeleton,
    k0_part37_skel, k0_part38_eq_skeleton, k0_part38_skel, k0_part39_eq_skeleton, k0_part39_skel,
    k0_part40_eq_skeleton, k0_part40_skel, k0_part41_eq_skeleton, k0_part41_skel, k0_part42_eq_skeleton,
    k0_part42_skel, k0_part43_eq_skeleton, k0_part43_skel, k0_part44_eq_skeleton, k0_part44_skel,
    k0_part45_eq_skeleton, k0_part45_skel, k0_part46_eq_skeleton, k0_part46_skel, k0_part47_eq_skeleton,
    k0_part47_skel, k0_part48_eq_skeleton, k0_part48_skel, k0_part49_eq_skeleton, k0_part49_skel,
    k0_part50_eq_skeleton, k0_part50_skel, k0_part51_eq_skeleton, k0_part51_skel, k0_part52_eq_skeleton,
    k0_part52_skel, k0_part53_eq_skeleton, k0_part53_skel, k0_part54_eq_skeleton, k0_part54_skel,
    k0_part55_eq_skeleton, k0_part55_skel, k0_part56_eq_skeleton, k0_part56_skel, k0_part57_eq_skeleton,
    k0_part57_skel, k0_part58_eq_skeleton, k0_part58_skel, k0_part59_eq_skeleton, k0_part59_skel,
    k0_part60_eq_skeleton, k0_part60_skel, k0_part61_eq_skeleton, k0_part61_skel, k0_part62_eq_skeleton,
    k0_part62_skel, k0_part63_eq_skeleton, k0_part63_skel, k0_part64_eq_skeleton, k0_part64_skel,
    k0_part65_eq_skeleton, k0_part65_skel, k0_part66_eq_skeleton, k0_part66_skel, k0_part67_eq_skeleton,
    k0_part67_skel, k0_part68_eq_skeleton, k0_part68_skel, k0_part69_eq_skeleton, k0_part69_skel,
    k0_part70_eq_skeleton, k0_part70_skel, k0_part71_eq_skeleton, k0_part71_skel, k0_part72_eq_skeleton,
    k0_part72_skel, k0_part73_eq_skeleton, k0_part73_skel, k0_part74_eq_skeleton, k0_part74_skel,
    k0_part75_eq_skeleton, k0_part75_skel, k0_part76_eq_skeleton, k0_part76_skel, k0_part77_eq_skeleton,
    k0_part77_skel, k0_part78_eq_skeleton, k0_part78_skel, k0_part79_eq_skeleton, k0_part79_skel,
    k0_part80_eq_skeleton, k0_part80_skel, k0_part81_eq_skeleton, k0_part81_skel,
    semSignalWord, semWaitWord, Prog.lift, Prog.bind_op, Prog.bind_ret, Prog.pure_eq_ret]
  chain_rfl

end Cert.AllReduce

end
-- ==== Proof.Contents.lean ====
/-
# Where the chunks lie and what they hold

The two neighbours of a device, the element sets of the chunks, and the contents the kernel moves: the half of the
y-neighbour's block that arrives, the half of the sum, the whole result.
-/
module

public import proofs.«01_k».proof.Proof.Uniform
public import proofs.«01_k».proof.Proof.Gen.KernelIdeal.Launch
public import Idealize.ShloMosaic.Lib.Ring
public import Idealize.ShloMosaic.Lib.Pipeline.ValueKit.Geometry

@[expose] public section

noncomputable section

namespace Cert.AllReduce

open Cert.KernelIdeal Cert.KernelIdeal.Gen
open Idealize.ShloMosaic Idealize.ShloMosaic.TcCoe
open Idealize.SL.Sem
open Idealize.ShloMosaic.ValueKit

variable {F : FTy → Type} [FloatOps F]

/-! ## The neighbours -/

/-- Going to the y-neighbour twice comes back. -/
theorem yDev_yDev (d : Dev nD) : yDev (yDev d) = d := by revert d; decide
/-- Going to the x-neighbour twice comes back. -/
theorem xDev_xDev (d : Dev nD) : xDev (xDev d) = d := by revert d; decide
/-- The y-neighbour reduces the same half of the rows. -/
theorem yDev_val (d : Dev nD) : (yDev d).val / 2 = d.val / 2 := by revert d; decide
/-- The x-neighbour reduces the other half of the rows. -/
theorem xDev_val (d : Dev nD) : (xDev d).val / 2 = 1 - d.val / 2 := by revert d; decide
/-- There are two halves. -/
theorem dev_half_lt (d : Dev nD) : d.val / 2 < 2 := by revert d; decide

/-- The device map to the y-neighbour, as a permutation. -/
def yPerm : Dev nD ≃ Dev nD := ⟨fun d => yDev d, fun d => yDev d, yDev_yDev, yDev_yDev⟩
/-- The device map to the x-neighbour, as a permutation. -/
def xPerm : Dev nD ≃ Dev nD := ⟨fun d => xDev d, fun d => xDev d, xDev_xDev, xDev_xDev⟩

/-! ## The chunks' elements -/

/-- An element of a 4096-row buffer is in chunk `i` when its row is. -/
theorem mem_chunk (i : Fin 32) (y : S4096x1024.Idx) :
    y ∈ (chunk i).set ↔ 128 * i.val ≤ (y 0).val ∧ (y 0).val < 128 * i.val + 128 := by
  rw [Rect.mem_set_unit]
  constructor
  · intro h; exact h 0
  · intro h a
    fin_cases a
    · exact h
    · exact ⟨Nat.zero_le _, by have := (y 1).isLt; simpa using this⟩

/-- An element of an 8192-row buffer is in chunk `i` of device `d`'s half when its row is. -/
theorem mem_hchunk (d : Dev nD) (i : Fin 32) (y : S8192x1024.Idx) :
    y ∈ (hchunk d i).set ↔ 4096 * (d.val / 2) + 128 * i.val ≤ (y 0).val
      ∧ (y 0).val < 4096 * (d.val / 2) + 128 * i.val + 128 := by
  rw [Rect.mem_set_unit, k0_off1_eq]
  constructor
  · intro h; exact h 0
  · intro h a
    fin_cases a
    · exact h
    · exact ⟨Nat.zero_le _, by have := (y 1).isLt; simpa using this⟩

/-- Different chunks of a 4096-row buffer share no element. -/
theorem chunk_disjoint (i j : Fin 32) (h : i ≠ j) : Disjoint (chunk i).set (chunk j).set := by
  rw [Finset.disjoint_left]
  intro y h1 h2
  rw [mem_chunk] at h1 h2
  exact h (Fin.ext (by omega))

/-- The chunks of a 4096-row buffer are all of it. -/
theorem chunk_cover : Finset.univ.biUnion (fun i : Fin 32 => (chunk i).set) = Finset.univ := by
  ext y
  simp only [Finset.mem_biUnion, Finset.mem_univ, true_and, iff_true]
  have hy : (y 0).val < 4096 := (y 0).isLt
  refine ⟨⟨(y 0).val / 128, by omega⟩, (mem_chunk _ _).mpr ?_⟩
  show 128 * ((y 0).val / 128) ≤ _ ∧ _ < 128 * ((y 0).val / 128) + 128
  omega

/-- The chunks of both halves of an 8192-row buffer: `false` the own half's, `true` the x-neighbour's. -/
def bothSets (d : Dev nD) (b : Bool × Fin 32) : Finset S8192x1024.Idx := (hchunk (if b.1 then xDev d else d) b.2).set

/-- Different chunks of an 8192-row buffer share no element. -/
theorem both_disjoint (d : Dev nD) (b b' : Bool × Fin 32) (h : b ≠ b') : Disjoint (bothSets d b) (bothSets d b') := by
  obtain ⟨b, i⟩ := b
  obtain ⟨b', i'⟩ := b'
  rw [Finset.disjoint_left]
  intro y h1 h2
  unfold bothSets at h1 h2
  rw [mem_hchunk] at h1 h2
  have hx := xDev_val d
  have hd := dev_half_lt d
  have hi := i.isLt
  have hi' := i'.isLt
  refine h (Prod.ext ?_ (Fin.ext ?_)) <;> cases b <;> cases b' <;>
    simp only [Bool.false_eq_true, if_true, if_false, reduceCtorEq, hx] at h1 h2 ⊢ <;> omega

/-- The chunks of both halves are all of an 8192-row buffer. -/
theorem both_cover (d : Dev nD) : Finset.univ.biUnion (bothSets d) = Finset.univ := by
  ext y
  simp only [Finset.mem_biUnion, Finset.mem_univ, true_and, iff_true]
  have hy : (y 0).val < 8192 := (y 0).isLt
  have hx := xDev_val d
  have hd := dev_half_lt d
  have key : ∀ e : Dev nD, (y 0).val / 4096 = e.val / 2 →
      y ∈ (hchunk e ⟨((y 0).val % 4096) / 128, by omega⟩).set := fun e he => by
    rw [mem_hchunk]
    show 4096 * (e.val / 2) + 128 * (((y 0).val % 4096) / 128) ≤ _ ∧ _ < 4096 * (e.val / 2) + 128 * (((y 0).val % 4096) / 128) + 128
    omega
  by_cases h : (y 0).val / 4096 = d.val / 2
  · exact ⟨(false, _), key d h⟩
  · exact ⟨(true, _), key (xDev d) (by omega)⟩

/-- The elements of chunk `i` of device `d`'s half, in `x`. -/
theorem set_xRow (d : Dev nD) (i : Fin 32) : (xRow d i).view.set = (hchunk d i).set := View.set_slice_whole _ _
/-- The elements of chunk `i` of device `d`'s half, in the result. -/
theorem set_oRow (d : Dev nD) (i : Fin 32) : (oRow d i).view.set = (hchunk d i).set := View.set_slice_whole _ _
/-- The elements of chunk `i`, in a device's own buffer. -/
theorem set_lRow (i : Fin 32) : (lRow i).view.set = (chunk i).set := View.set_slice_whole _ _
/-- The elements of chunk `i`, in the receive buffer. -/
theorem set_rRow (i : Fin 32) : (rRow i).view.set = (chunk i).set := View.set_slice_whole _ _

/-! ## The contents -/

/-- A block of `x` or the result, over the float values. -/
abbrev Block (F : FTy → Type) : Type := S8192x1024.Idx → Elt F .f32
/-- Half of one. -/
abbrev Half (F : FTy → Type) : Type := S4096x1024.Idx → Elt F .f32

/-- Row `r` of device `d`'s half, in the whole block. -/
def up (d : Dev nD) (y : S4096x1024.Idx) : S8192x1024.Idx :=
  (Rect.unit (s := S8192x1024) (k0_off2 d) S4096x1024.size (k0_off2_inb d)).emb y

/-- The coordinates of an element of device `d`'s half, in the whole block. -/
theorem up_val (d : Dev nD) (y : S4096x1024.Idx) (a : Fin 2) : (up d y a).val = (![4096 * (d.val / 2), 0] : Fin 2 → ℕ) a + (y a).val := by
  unfold up
  rw [rect_emb_unit_val]
  exact congrArg (· + (y a).val) (congrFun (k0_off2_eq d) a)

/-- Device `d`'s half of a block. -/
def halfOf (d : Dev nD) (f : Block F) : Half F := fun y => f (up d y)

/-- An element of chunk `i` of device `d`'s half, in the block and in the half. -/
theorem up_chunk (d : Dev nD) (i : Fin 32) (j : S128x1024.Idx) : up d ((chunk i).emb j) = (hchunk d i).emb j := by
  funext a
  apply Fin.ext
  rw [up_val, rect_emb_unit_val, rect_emb_unit_val]
  refine Eq.trans ?_ (congrArg (· + (j a).val) (congrFun (k0_off1_eq d i).symm a))
  fin_cases a <;> simp <;> omega

omit [FloatOps F] in
/-- Chunk `i` of the half is the block's chunk. -/
theorem half_chunk (d : Dev nD) (i : Fin 32) (f : Block F) (j : S128x1024.Idx) :
    halfOf d f ((chunk i).emb j) = f ((hchunk d i).emb j) := by
  unfold halfOf; rw [up_chunk]

variable (X : Dev nD → Block F)

/-- The sum of a device's block and its y-neighbour's, in that order. -/
def sumOf (d : Dev nD) : Block F := fun y => FloatOps.addf (X d y) (X (yDev d) y)

/-- What device `d`'s result holds at the end: its own half from its own sum, the other half from the x-neighbour's. -/
def resultOf (d : Dev nD) : Block F := fun y => if (y 0).val / 4096 = d.val / 2 then sumOf X d y else sumOf X (xDev d) y

/-- Every row of a chunk of device `d`'s half lies in that half. -/
theorem hchunk_row (d : Dev nD) (i : Fin 32) (j : S128x1024.Idx) : ((hchunk d i).emb j 0).val / 4096 = d.val / 2 := by
  have h := (mem_hchunk d i ((hchunk d i).emb j)).mp (by rw [← Rect.map_emb_univ]; exact Finset.mem_map_of_mem _ (Finset.mem_univ j))
  have hi := i.isLt
  generalize ((hchunk d i).emb j 0).val = r at h ⊢
  omega

/-- Over its own half a device's result is its own sum. -/
theorem result_own (d : Dev nD) (i : Fin 32) (j : S128x1024.Idx) :
    resultOf X d ((hchunk d i).emb j) = halfOf d (sumOf X d) ((chunk i).emb j) := by
  rw [half_chunk]; unfold resultOf; rw [if_pos (hchunk_row d i j)]

/-- Over the other half it is the x-neighbour's. -/
theorem result_other (d : Dev nD) (i : Fin 32) (j : S128x1024.Idx) :
    resultOf X (xDev d) ((hchunk d i).emb j) = halfOf d (sumOf X d) ((chunk i).emb j) := by
  rw [half_chunk]; unfold resultOf
  have hx := xDev_val d
  have hd := dev_half_lt d
  rw [if_neg (by rw [hchunk_row d i j]; omega), xDev_xDev]

end Cert.AllReduce

end
-- ==== Proof.Protocol.lean ====
/-
# The protocol: who pays which cell, and with what

Every semaphore of a device is a cell with one round. The barrier cell has two duties: the y-neighbour's unit hands over
that neighbour's receive buffer, the x-neighbour's the rows of its result this device will write. Each transfer's cell has
one duty, whose payload is what the transfer delivers, contents included.
-/
module

public import proofs.«01_k».proof.Proof.Contents
public import Idealize.ShloMosaic.Lib.Pipeline.Launch
public import Idealize.ShloMosaic.Lib.Pipeline.Kit
public import Idealize.ShloMosaic.Lib.Rounds
public import Idealize.ShloMosaic.Lib.Tactic

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The kernel's own cells, duties named by `Bool`. -/
abbrev UB : Type := URounds (GSem nD τ sig) Bool
/-- The pipeline's algebra and the kernel's. -/
abbrev UU : Type := UR sig nD τ × UB

local notation "𝕄" => MT nD τ sig Unit (Elt F) ℕ UU ℕ

/-- The pipeline's part of the algebra. -/
abbrev EP : Emb (UR sig nD τ) (MT nD τ sig Unit (Elt F) ℕ UU ℕ) := embL
/-- The kernel's part of the algebra. -/
abbrev ER : Emb UB (MT nD τ sig Unit (Elt F) ℕ UU ℕ) := embR

/-! ## The cells -/

/-- A device's transfers: the load of its half, and five for each chunk — 0 the store to its own result, 1 and 2 the two ends
    of the y transfer (sent, received), 3 and 4 those of the x transfer. -/
abbrev Xfer : Type := Unit ⊕ (Fin 32 × Fin 5)

/-- The semaphore a transfer completes on. -/
def dsem : Xfer → DmaSem sig
  | .inl _ => loadS
  | .inr (i, 0) => storeS i
  | .inr (i, 1) => ysendS i
  | .inr (i, 2) => yrecvS i
  | .inr (i, 3) => xsendS i
  | .inr (i, 4) => xrecvS i

/-- The transfer a semaphore belongs to. -/
def xferOf (j : DmaSem sig) : Xfer :=
  if j.val = 0 then .inl () else .inr (⟨(j.val - 1) % 32, Nat.mod_lt _ (by decide)⟩, ⟨(j.val - 1) / 32 % 5, Nat.mod_lt _ (by decide)⟩)

set_option maxRecDepth 8000 in
/-- A transfer's semaphore is that transfer's. -/
theorem xferOf_dsem : ∀ k : Xfer, xferOf (dsem k) = k := by decide +kernel

/-- Different transfers have different semaphores. -/
theorem dsem_injective : Function.Injective dsem := fun a b h => by rw [← xferOf_dsem a, h, xferOf_dsem]

/-- All of a device's cells: the barrier and the transfers. -/
abbrev Cell : Type := Unit ⊕ Xfer

/-- The semaphore of a cell. -/
def ksem : Cell → SemLoc sig
  | .inl _ => .reg barS
  | .inr k => .dma (dsem k)

/-- Different cells have different semaphores. -/
theorem ksem_injective : Function.Injective ksem := by
  rintro (_ | a) (_ | b) h
  · rfl
  · cases h
  · cases h
  · exact congrArg _ (dsem_injective (by injection h))

/-- Cell `k` of device `c`. -/
abbrev kcell (c : Dev nD) (k : Cell) : GSem nD τ sig := ((c : Thread nD τ), ksem k)
/-- Device `c`'s barrier cell. -/
abbrev barC (c : Dev nD) : GSem nD τ sig := kcell c (.inl ())
/-- Device `c`'s cell of transfer `k`. -/
abbrev xferC (c : Dev nD) (k : Xfer) : GSem nD τ sig := kcell c (.inr k)

/-- A cell determines its device and its index. -/
theorem kcell_eq {c c' : Dev nD} {k k' : Cell} (h : kcell c k = kcell c' k') : c = c' ∧ k = k' :=
  ⟨congrArg (fun g : GSem nD τ sig => g.1.1) h, ksem_injective (congrArg Prod.snd h)⟩

/-- What a chunk's transfer credits its cell with. -/
def NC : ℕ := (lRow 0).view.dmaCredit
/-- What the load credits its cell with. -/
def NL : ℕ := lM.view.dmaCredit
/-- A chunk's credit is positive. -/
theorem NC_pos : 0 < NC := by unfold NC; exact View.dmaCredit_pos (lRow 0).view (by decide)
/-- The load's credit is positive. -/
theorem NL_pos : 0 < NL := by unfold NL; exact View.dmaCredit_pos lM.view (by decide)
/-- A chunk of the own buffer credits `NC`. -/
theorem credit_l (i : Fin 32) : (lRow i).view.dmaCredit = NC := rfl
/-- A chunk of the receive buffer credits `NC`. -/
theorem credit_r (i : Fin 32) : (rRow i).view.dmaCredit = NC := rfl
/-- A chunk of `x` credits `NC`. -/
theorem credit_x (d : Dev nD) (i : Fin 32) : (xRow d i).view.dmaCredit = NC := rfl
/-- A chunk of the result credits `NC`. -/
theorem credit_o (d : Dev nD) (i : Fin 32) : (oRow d i).view.dmaCredit = NC := rfl
/-- The whole own buffer credits `NL`. -/
theorem credit_load : lM.view.dmaCredit = NL := rfl
/-- The credit of each transfer. -/
def amt : Xfer → ℕ
  | .inl _ => NL
  | .inr _ => NC
/-- Every transfer's credit is positive. -/
theorem amt_pos : ∀ k : Xfer, 0 < amt k
  | .inl _ => NL_pos
  | .inr _ => NC_pos

/-! ## The pieces of the buffers -/

/-- Chunk `i` of device `d`'s half of its `x`, at share `q`. -/
def xPts (X : Dev nD → Block F) (d : Dev nD) (i : Fin 32) (q : PosShare TreeShare) : sProp 𝕄 :=
  (xRow d i).view.loc (d : Thread nD τ) ↦[(xRow d i).view.set]{q} X d
/-- Device `d`'s half of its `x`, at share `q`. -/
def xHalfPts (X : Dev nD → Block F) (d : Dev nD) (q : PosShare TreeShare) : sProp 𝕄 :=
  (xHalf d).view.loc (d : Thread nD τ) ↦[(xHalf d).view.set]{q} X d
/-- Chunk `i` of device `e`'s half, in device `d`'s result. -/
def oPts (d e : Dev nD) (i : Fin 32) (f : Block F) : sProp 𝕄 :=
  (oRow e i).view.loc (d : Thread nD τ) ↦[(oRow e i).view.set]{fullShare} f
/-- Chunk `i` of device `d`'s own buffer, at share `q`. -/
def lPts (d : Dev nD) (i : Fin 32) (q : PosShare TreeShare) (f : Half F) : sProp 𝕄 :=
  (lRow i).view.loc (d : Thread nD τ) ↦[(lRow i).view.set]{q} f
/-- Chunk `i` of device `d`'s receive buffer. -/
def rPts (d : Dev nD) (i : Fin 32) (f : Half F) : sProp 𝕄 :=
  (rRow i).view.loc (d : Thread nD τ) ↦[(rRow i).view.set]{fullShare} f
/-- Device `d`'s own buffer, whole. -/
def lWhole (d : Dev nD) (f : Half F) : sProp 𝕄 := lM.view.loc (d : Thread nD τ) ↦[lM.view.set]{fullShare} f

instance (X : Dev nD → Block F) (d : Dev nD) (i : Fin 32) (q) : BI.Storable (upEmb : UEmb _ 𝕄) (xPts X d i q) := by unfold xPts; infer_instance
instance (d e : Dev nD) (i : Fin 32) (f : Block F) : BI.Storable (upEmb : UEmb _ 𝕄) (oPts d e i f) := by unfold oPts; infer_instance
instance (d : Dev nD) (i : Fin 32) (q) (f : Half F) : BI.Storable (upEmb : UEmb _ 𝕄) (lPts d i q f) := by unfold lPts; infer_instance
instance (d : Dev nD) (i : Fin 32) (f : Half F) : BI.Storable (upEmb : UEmb _ 𝕄) (rPts d i f) := by unfold rPts; infer_instance
instance (d : Dev nD) (f : Half F) : BI.Storable (upEmb : UEmb _ 𝕄) (lWhole d f) := by unfold lWhole; infer_instance

variable (X : Dev nD → Block F)

/-! ## The schedule -/

/-- What device `c`'s barrier cell receives: from the y-neighbour (`true`) that device's receive buffer, from the x-neighbour
    the rows of its result that `c` reduces. -/
def bpay (c : Dev nD) (d : Bool) : sProp 𝕄 :=
  if d then iprop(bigSep Finset.univ fun i : Fin 32 => iprop(∃ f, rPts (yDev c) i f))
  else iprop(bigSep Finset.univ fun i : Fin 32 => iprop(∃ f, oPts (xDev c) c i f))

/-- What a transfer's cell of device `c` receives. -/
def dpay (c : Dev nD) : Xfer → sProp 𝕄
  | .inl _ => lWhole c (halfOf c (X c))
  | .inr (i, 0) => iprop(oPts c c i (resultOf X c) ∗ lPts c i fullShare.left (halfOf c (sumOf X c)))
  | .inr (i, 1) => iprop(emp)
  | .inr (i, 2) => rPts c i (halfOf c (X (yDev c)))
  | .inr (i, 3) => lPts c i fullShare.right (halfOf c (sumOf X c))
  | .inr (i, 4) => oPts c (xDev c) i (resultOf X c)

instance (c : Dev nD) (d : Bool) : BI.Storable (upEmb : UEmb _ 𝕄) (bpay (F := F) c d) := by
  unfold bpay; split <;> infer_instance
instance (c : Dev nD) (k : Xfer) : BI.Storable (upEmb : UEmb _ 𝕄) (dpay X c k) := by
  unfold dpay; split <;> infer_instance

/-- One round, round 0: the barrier's two duties of a unit each, each transfer's one duty of its credit. -/
def sched : Rounds.Schedule (GSem nD τ sig) Bool 𝕄 where
  duties g r := if r = 0 then (match g.2 with | .reg _ => Finset.univ | .dma _ => {true}) else ∅
  unitless _ := False
  amount g _ _ := match g.2 with | .reg _ => 1 | .dma j => amt (xferOf j)
  payload g _ d := match g.2 with | .reg _ => bpay g.1.1 d | .dma j => dpay X g.1.1 (xferOf j)
  amount_pos g _ _ _ := by split; exacts [Nat.one_pos, amt_pos _]

instance (g : GSem nD τ sig) (r : ℕ) (d : Bool) : BI.Storable (upEmb : UEmb _ 𝕄) ((sched X).payload g r d) := by
  show BI.Storable upEmb (match g.2 with | .reg _ => bpay g.1.1 d | .dma j => dpay X g.1.1 (xferOf j))
  split <;> infer_instance

/-- The barrier has both duties at round 0. -/
theorem duties_bar (c : Dev nD) : (sched X).duties (barC c) 0 = Finset.univ := rfl
/-- A transfer's cell has one duty at round 0. -/
theorem duties_xfer (c : Dev nD) (k : Xfer) : (sched X).duties (xferC c k) 0 = {true} := rfl
/-- No cell has a duty after round 0. -/
theorem duties_later (g : GSem nD τ sig) : ∀ r, 1 ≤ r → (sched X).duties g r = ∅ :=
  fun r hr => if_neg (by omega)
/-- Either name is a duty of the barrier. -/
theorem mem_duties_bar (c : Dev nD) (d : Bool) : d ∈ (sched X).duties (barC c) 0 := Finset.mem_univ d
/-- `true` is the duty of a transfer's cell. -/
theorem mem_duties_xfer (c : Dev nD) (k : Xfer) : true ∈ (sched X).duties (xferC c k) 0 := Finset.mem_singleton_self _
/-- A barrier's duty pays one unit. -/
theorem amount_bar (c : Dev nD) (d : Bool) : (sched X).amount (barC c) 0 d = 1 := rfl
/-- A transfer's duty pays its credit. -/
theorem amount_xfer (c : Dev nD) (k : Xfer) (d : Bool) : (sched X).amount (xferC c k) 0 d = amt k :=
  congrArg amt (xferOf_dsem k)
/-- What a barrier's duty brings. -/
theorem payload_bar (c : Dev nD) (d : Bool) : (sched X).payload (barC c) 0 d = bpay c d := rfl
/-- What a transfer's duty brings. -/
theorem payload_xfer (c : Dev nD) (k : Xfer) (d : Bool) : (sched X).payload (xferC c k) 0 d = dpay X c k :=
  congrArg (dpay X c) (xferOf_dsem k)
/-- The barrier expects two units. -/
theorem expect_bar (c : Dev nD) : (sched X).expect (barC c) 0 = 2 := rfl
/-- A transfer's cell expects its credit. -/
theorem expect_xfer (c : Dev nD) (k : Xfer) : (sched X).expect (xferC c k) 0 = amt k := by
  unfold Schedule.expect Schedule.amountOf; rw [duties_xfer, Finset.sum_singleton, amount_xfer]

/-- The whole of the barrier's round. -/
theorem rest_bar (c : Dev nD) : bigSep ((sched X).duties (barC c) 0 \ ∅) (fun d => (sched X).payload (barC c) 0 d)
    = iprop(bpay c true ∗ bpay c false) := by
  rw [Finset.sdiff_empty, duties_bar, bigSep_univ_eq_bigSepL [true, false] (by decide) (by decide), bigSepL_cons_cons, bigSepL_singleton]
  rfl
/-- The whole of a transfer's round. -/
theorem rest_xfer (c : Dev nD) (k : Xfer) :
    bigSep ((sched X).duties (xferC c k) 0 \ ∅) (fun d => (sched X).payload (xferC c k) 0 d) = dpay X c k := by
  rw [Finset.sdiff_empty, duties_xfer, bigSep_singleton, payload_xfer]

/-! ## What each device owes at launch; the levels -/

/-- The credit owed to the x-neighbour's receive cells of the chunks `s`. -/
def owedX (c : Dev nD) (s : Finset (Fin 32)) : CellTallies nD τ sig Unit := ∑ i ∈ s, tallyAt (xferC (xDev c) (.inr (i, 4))) () NC
/-- The credit owed to the y-neighbour's receive cells of the chunks `s`. -/
def owedY (c : Dev nD) (s : Finset (Fin 32)) : CellTallies nD τ sig Unit := ∑ i ∈ s, tallyAt (xferC (yDev c) (.inr (i, 2))) () NC
/-- What is owed once the first barrier signal is out, and at launch. -/
def owed₁ (c : Dev nD) : CellTallies nD τ sig Unit := (owedX c Finset.univ + owedY c Finset.univ) + tallyAt (barC (xDev c)) () 1
/-- What device `c` owes at launch: both barrier signals and every send. -/
def owed₀ (c : Dev nD) : CellTallies nD τ sig Unit := owed₁ c + tallyAt (barC (yDev c)) () 1

/-- The sends to the x-neighbour owed, one taken out. -/
theorem owedX_insert (c : Dev nD) {i : Fin 32} {s : Finset (Fin 32)} (h : i ∉ s) :
    owedX c (insert i s) = owedX c s + tallyAt (xferC (xDev c) (.inr (i, 4))) () NC := by
  unfold owedX; rw [Finset.sum_insert h, add_comm]
/-- The sends to the y-neighbour owed, one taken out. -/
theorem owedY_insert (c : Dev nD) {i : Fin 32} {s : Finset (Fin 32)} (h : i ∉ s) :
    owedX c Finset.univ + owedY c (insert i s) = (owedX c Finset.univ + owedY c s) + tallyAt (xferC (yDev c) (.inr (i, 2))) () NC := by
  unfold owedY; rw [Finset.sum_insert h, add_comm (tallyAt _ _ _), add_assoc]

/-- The labels at which a cell may be owed: one, on a TensorCore. -/
def L (g : GSem nD τ sig) : Finset Unit := if g.1.2 = .tc then {()} else ∅
/-- The barrier at 1, the y arrivals at 2, the x arrivals at 3, everything local at 0. -/
def lv (g : GSem nD τ sig) (_ : Unit) : ℕ := match g.2 with
  | .reg _ => 1
  | .dma j => match xferOf j with
    | .inl _ => 0
    | .inr (_, g) => if g = 2 then 2 else if g = 4 then 3 else 0

/-- Off the TensorCores there is none. -/
theorem L_of_ne (g : GSem nD τ sig) (h : g.1.2 ≠ .tc) : L g = ∅ := if_neg h
/-- Every cell of a device has the one label. -/
theorem mem_L (c : Dev nD) (k : Cell) (u : Unit) : u ∈ L (kcell c k) := Finset.mem_singleton_self _
/-- The barrier's level. -/
theorem lv_bar (c : Dev nD) : lv (barC c) () = 1 := rfl
/-- The load's level. -/
theorem lv_load (c : Dev nD) : lv (xferC c (.inl ())) () = 0 := by
  show (match xferOf (dsem (.inl ())) with | .inl _ => 0 | .inr (_, g) => if g = 2 then 2 else if g = 4 then 3 else 0) = 0
  rw [xferOf_dsem]
/-- The levels of the chunks' cells. -/
theorem lv_chunk (c : Dev nD) (i : Fin 32) (g : Fin 5) : lv (xferC c (.inr (i, g))) () = if g = 2 then 2 else if g = 4 then 3 else 0 := by
  show (match xferOf (dsem (.inr (i, g))) with | .inl _ => 0 | .inr (_, g) => if g = 2 then 2 else if g = 4 then 3 else 0) = _
  rw [xferOf_dsem]

/-- Where a sum of tallies over chunks is positive, the cell is one of those summed over. -/
theorem sum_tally_pos {s : Finset (Fin 32)} {e : Dev nD} {j : Fin 5} {g : GSem nD τ sig} {u : Unit}
    (h : 0 < (∑ i ∈ s, tallyAt (xferC e (.inr (i, j))) () NC : CellTallies nD τ sig Unit) g u) : ∃ i, g = xferC e (.inr (i, j)) := by
  rw [Finset.sum_apply, Finsupp.finsetSum_apply] at h
  obtain ⟨i, -, hi⟩ := Finset.exists_ne_zero_of_sum_ne_zero (Nat.pos_iff_ne_zero.mp h)
  exact ⟨i, (Pipeline.tallyAt_pos (Nat.pos_of_ne_zero hi)).1⟩

/-- A wait on cell `k` is allowed when everything owed sits at a higher level. -/
theorem mayWait_of (c : Dev nD) (k : Cell) (O : CellTallies nD τ sig Unit)
    (h : ∀ g u, 0 < O g u → ∃ e k', g = kcell e k' ∧ lv (kcell c k) () < lv (kcell e k') ()) :
    (levAts L lv : sProp 𝕄) ⊢ MayWait (c : Thread nD τ) (ksem k) () O :=
  MayOwe.of_cut (L := L) (lev := lv) (lv (kcell c k) ()) (fun p hp => by rw [Finset.mem_singleton.mp hp]; exact mem_L c k ())
    (fun g u hg => by obtain ⟨e, k', rfl, -⟩ := h g u hg; exact mem_L e k' u)
    (fun p hp => by rw [Finset.mem_singleton.mp hp])
    (fun g u hg => by obtain ⟨e, k', rfl, hlt⟩ := h g u hg; exact hlt)

/-- At the barrier a device owes arrivals only. -/
theorem mayWait_bar (c : Dev nD) :
    (levAts L lv : sProp 𝕄) ⊢ MayWait (c : Thread nD τ) (.reg barS) () (owedX c Finset.univ + owedY c Finset.univ) :=
  mayWait_of c (.inl ()) _ fun g u hg => by
    rw [Pi.add_apply, Finsupp.add_apply] at hg
    rcases Nat.eq_zero_or_pos (owedX c Finset.univ g u) with h0 | h0
    · rw [h0, Nat.zero_add] at hg
      obtain ⟨i, rfl⟩ := sum_tally_pos hg
      exact ⟨_, _, rfl, by rw [lv_bar, lv_chunk]; decide⟩
    · obtain ⟨i, rfl⟩ := sum_tally_pos h0
      exact ⟨_, _, rfl, by rw [lv_bar, lv_chunk]; decide⟩

/-- Below the x arrivals a wait is allowed while only those are owed. -/
theorem mayWait_x (c : Dev nD) (k : Cell) (hk : lv (kcell c k) () < 3) (s : Finset (Fin 32)) :
    (levAts L lv : sProp 𝕄) ⊢ MayWait (c : Thread nD τ) (ksem k) () (owedX c s) :=
  mayWait_of c k _ fun g u hg => by
    obtain ⟨i, rfl⟩ := sum_tally_pos hg
    exact ⟨_, _, rfl, by rw [lv_chunk]; exact hk⟩

/-! ## What every device knows -/

/-- All devices' cells' invariants, under the names `K`, and that every cell has reached its round. -/
def records (K : Dev nD × Cell → ℕ) : sProp 𝕄 :=
  iprop((bigSep Finset.univ fun ck : Dev nD × Cell => cellInv ER (sched X) (K ck) (kcell ck.1 ck.2))
    ∗ bigSep Finset.univ fun ck : Dev nD × Cell => reached ER (kcell ck.1 ck.2) 0)

instance (K : Dev nD × Cell → ℕ) : BI.Persistent (records X K) := by unfold records; infer_instance

/-- The invariant of one cell, from the records. -/
theorem inv_at (K : Dev nD × Cell → ℕ) (c : Dev nD) (k : Cell) : records X K ⊢ cellInv ER (sched X) (K (c, k)) (kcell c k) := by
  have h : (bigSep Finset.univ fun ck : Dev nD × Cell => (cellInv ER (sched X) (K ck) (kcell ck.1 ck.2) : sProp 𝕄))
    ⊢ cellInv ER (sched X) (K (c, k)) (kcell c k) := bigSep_elim (Finset.mem_univ (c, k))
  unfold records
  iintro ⟨H, -⟩
  iapply h
  iexact H

/-- That a cell has reached round 0, from the records. -/
theorem reached_at (K : Dev nD × Cell → ℕ) (c : Dev nD) (k : Cell) : records X K ⊢ reached ER (kcell c k) 0 := by
  have h : (bigSep Finset.univ fun ck : Dev nD × Cell => (reached ER (kcell ck.1 ck.2) 0 : sProp 𝕄))
    ⊢ reached ER (kcell c k) 0 := bigSep_elim (Finset.mem_univ (c, k))
  unfold records
  iintro ⟨-, H⟩
  iapply h
  iexact H

/-- What device `c` owes now, whatever it has waited on. -/
def owesNow (c : Dev nD) (O : CellTallies nD τ sig Unit) : sProp 𝕄 := iprop(∃ W : Waits sig Unit, owes (c : Thread nD τ) O W)

end Cert.AllReduce

end
-- ==== Proof.Steps.lean ====
/-
# The steps of the body

What each kind of step needs and leaves, for any chunk on any device, and the rule for a loop over the chunks.
-/
module

public import proofs.«01_k».proof.Proof.Protocol

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop of the kernel needs a variant. -/
abbrev 𝒱₀ : Variants := Variants.none

/-- The weakest precondition of a program of the kernel on device `c`. -/
abbrev wpk (c : Dev nD) (p : KProg F) (Q : PUnit → sProp 𝕄) : sProp 𝕄 :=
  wp frame (wpE (defs₀ (F := F)) 𝒱₀ (c : Thread nD τ) none) Set.univ p Q

/-! ## What lands -/

/-- A write of what another contents reads through the same view leaves that contents on the view's elements. -/
theorem landed {κ : Kind} {sp : Space} {s : Shape} {e : EltTy} (v : View sig κ sp s e) (f g : v.ty.Contents (Elt F))
    (w : s.Idx → Elt F e) (h : w = v.read (Elt F) g) : ∀ y ∈ v.set, v.write (Elt F) f w Finset.univ y = g y := by
  intro y hy
  rw [h, View.write_read_eq_piecewise, View.setOn_univ, Finset.piecewise_eq_of_mem _ _ _ hy]

/-- The y-neighbour's half is the same rows. -/
theorem half_y (c : Dev nD) (f : Block F) : halfOf (yDev c) f = halfOf c f := by
  funext y
  unfold halfOf
  refine congrArg f (funext fun a => Fin.ext ?_)
  rw [up_val, up_val, yDev_val]

/-- What the y transfer of chunk `i` reads is what the receive buffer is to hold there. -/
theorem read_x (c : Dev nD) (i : Fin 32) (f : Block F) :
    (xRow c i).view.read (Elt F) f = (rRow i).view.read (Elt F) (halfOf c f) := by
  funext j
  show f ((hchunk c i).emb j) = halfOf c f ((chunk i).emb j)
  rw [half_chunk]

/-- What the load reads is the half. -/
theorem read_half (c : Dev nD) (f : Block F) : (xHalf c).view.read (Elt F) f = lM.view.read (Elt F) (halfOf c f) := rfl

variable (X : Dev nD → Block F)

/-- What leaves chunk `i` of the sum is the own result there, -/
theorem read_own (c : Dev nD) (i : Fin 32) :
    (lRow i).view.read (Elt F) (halfOf c (sumOf X c)) = (oRow c i).view.read (Elt F) (resultOf X c) := by
  funext j
  show halfOf c (sumOf X c) ((chunk i).emb j) = resultOf X c ((hchunk c i).emb j)
  rw [result_own]

/-- and the x-neighbour's. -/
theorem read_other (c : Dev nD) (i : Fin 32) :
    (lRow i).view.read (Elt F) (halfOf c (sumOf X c)) = (oRow c i).view.read (Elt F) (resultOf X (xDev c)) := by
  funext j
  show halfOf c (sumOf X c) ((chunk i).emb j) = resultOf X (xDev c) ((hchunk c i).emb j)
  rw [result_other]

/-- What a chunk's store writes is the sum. -/
theorem read_sum (c : Dev nD) (i : Fin 32) :
    k0_pay1 ((lM.access (chunk i)).read (Elt F) (halfOf c (X c))) ((rM.access (chunk i)).read (Elt F) (halfOf c (X (yDev c))))
      = (lM.access (chunk i)).read (Elt F) (halfOf c (sumOf X c)) := by
  refine (show k0_pay1 _ _ = shapeCast S128x1024 (addf _ _) shapeCasts_S128x1024_S128x1024 from rfl).trans ?_
  rw [shapeCast_self]
  rfl

/-! ## The loop rule -/

/-- A loop over distinct chunks: `I` holds of the chunks to come, each step turns its chunk's `A` into its `B`. -/
theorem wp_each (c : Dev nD) (f : Fin 32 → KProg F → KProg F) (I : Finset (Fin 32) → sProp 𝕄) (A B : Fin 32 → sProp 𝕄)
    (step : ∀ (i : Fin 32) (s : Finset (Fin 32)), i ∉ s → ∀ (p : KProg F) (Q : PUnit → sProp 𝕄),
      iprop(I (insert i s) ∗ A i) ⊢ iprop(((I s ∗ B i) -∗ wpk c p Q) -∗ wpk c (f i p) Q)) :
    ∀ l : List (Fin 32), l.Nodup → ∀ (p : KProg F) (Q : PUnit → sProp 𝕄),
      iprop(I l.toFinset ∗ bigSep l.toFinset A) ⊢ iprop(((I ∅ ∗ bigSep l.toFinset B) -∗ wpk c p Q) -∗ wpk c (each f l p) Q)
  | [], _, p, Q => by
    rw [List.toFinset_nil, bigSep_empty, bigSep_empty]
    unfold each
    iintro H Hk
    iapply Hk
    iexact H
  | i :: l, h, p, Q => by
    have hi : i ∉ l.toFinset := fun hm => (List.nodup_cons.mp h).1 (List.mem_toFinset.mp hm)
    rw [List.toFinset_cons, bigSep_insert hi, bigSep_insert hi]
    unfold each
    refine (show iprop(I (insert i l.toFinset) ∗ (A i ∗ bigSep l.toFinset A))
      ⊢ iprop(((I ∅ ∗ (B i ∗ bigSep l.toFinset B)) -∗ wpk c p Q) -∗ wpk c (f i (each f l p)) Q) from ?_)
    iintro ⟨HI, HA, HAs⟩ Hk
    iapply (step i l.toFinset hi (each f l p) Q) $$ [HI HA]
    · isplitl [HI] <;> iassumption
    iintro ⟨HI, HB⟩
    iapply (wp_each c f I A B step l (List.nodup_cons.mp h).2 p Q) $$ [HI HAs]
    · isplitl [HI] <;> iassumption
    iintro ⟨HI, HBs⟩
    iapply Hk
    isplitl [HI]; · iexact HI
    isplitl [HB] <;> iassumption

/-- The chunks listed are all the chunks. -/
theorem chunks_univ : chunks.toFinset = Finset.univ := by decide
/-- No chunk is listed twice. -/
theorem chunks_nodup : chunks.Nodup := by decide

/-- The loop over all chunks. -/
theorem wp_chunks (c : Dev nD) (f : Fin 32 → KProg F → KProg F) (I : Finset (Fin 32) → sProp 𝕄) (A B : Fin 32 → sProp 𝕄)
    (step : ∀ (i : Fin 32) (s : Finset (Fin 32)), i ∉ s → ∀ (p : KProg F) (Q : PUnit → sProp 𝕄),
      iprop(I (insert i s) ∗ A i) ⊢ iprop(((I s ∗ B i) -∗ wpk c p Q) -∗ wpk c (f i p) Q))
    (p : KProg F) (Q : PUnit → sProp 𝕄) :
    iprop(I Finset.univ ∗ bigSep Finset.univ A) ⊢ iprop(((I ∅ ∗ bigSep Finset.univ B) -∗ wpk c p Q) -∗ wpk c (each f chunks p) Q) := by
  have h := wp_each c f I A B step chunks chunks_nodup p Q
  rw [chunks_univ] at h
  exact h

/-! ## A wait for a transfer -/

variable (K : Dev nD × Cell → ℕ) (c : Dev nD)

/-- Waiting for a transfer's whole round: its payload, and its cell closed. -/
theorem wp_wait_xfer (k : Xfer) (O : CellTallies nD τ sig Unit) {sp sp' : Space} {s s' : Shape} {e e' : EltTy}
    {src : Memref sig .tc sp' s' e'} {dst : Memref sig .tc sp s e} {hsrc : src.view.WordExact} {hdst : dst.view.WordExact}
    (hN : dst.view.dmaCredit = amt k)
    (hw : (levAts L lv : sProp 𝕄) ⊢ MayWait (c : Thread nD τ) (ksem (.inr k)) () O) (p : KProg F) (Q : PUnit → sProp 𝕄) :
    iprop(records X K ∗ levAts L lv ∗ atPos ER (xferC c k) 0 ∅ 0 ∗ cred (tallyAt (xferC c k) () (amt k)) ∗ owesNow c O)
      ⊢ iprop(((owesNow c O ∗ semVal (xferC c k) 0 ∗ dpay X c k) -∗ wpk c p Q)
        -∗ wpk c (.op (.waitDma2 (dsem k) src dst hsrc hdst) fun _ => p) Q) := by
  unfold owesNow
  iintro ⟨#HR, #Hlev, Hat, Hc, ⟨%W, HO⟩⟩ Hk
  ihave #HI := (inv_at X K c (.inr k)) $$ HR
  iapply (Rounds.wp_wait_rest_token 𝒱₀ ER (sched X) (c : Thread nD τ) none (κ := K (c, .inr k))
      (wpE_waitDma2_eq 𝒱₀ (c : Thread nD τ) none Set.univ) (Set.mem_univ _) () (O := O) (W := W) (R := 0) (m := 0) (T := ∅)
      (sm := ksem (.inr k)) (by rw [Nat.zero_add, expect_xfer]; exact hN)) $$ [Hc HO Hat]
  · isplitr; · iexact HI
    isplitl [Hc]; · rw [hN]; iexact Hc
    isplitl [HO]; · iexact HO
    isplitr; · iapply hw; iexact Hlev
    iexact Hat
  iintro ⟨HO, Hat, -, Hpay⟩
  ihave Hp := (Entails.of_eq (rest_xfer X c k)) $$ Hpay
  imod (Rounds.cell_close ER (sched X) (Set.mem_univ (K (c, .inr k))) (fun h => h) (R := 0 + 1) (duties_later X (xferC c k))) $$ [Hat] with Hz
  · isplitr; · iexact HI
    iexact Hat
  iapply Hk
  isplitl [HO]; · iexists _; iexact HO
  isplitl [Hz] <;> iassumption

/-! ## The four steps -/

/-- Chunk `i` starts toward the y-neighbour: the chunk of `x` and the y-neighbour's receive buffer's go into the transfer. -/
theorem step_sendY (q : PosShare TreeShare) (i : Fin 32) (s : Finset (Fin 32)) (hi : i ∉ s) (p : KProg F) (Q : PUnit → sProp 𝕄) :
    iprop((records X K ∗ owesNow c (owedX c Finset.univ + owedY c (insert i s)))
        ∗ xPts X c i q ∗ (∃ f, rPts (yDev c) i f) ∗ dutyTok ER (xferC c (.inr (i, 1))) 0 true ∗ dutyTok ER (xferC (yDev c) (.inr (i, 2))) 0 true)
      ⊢ iprop((((records X K ∗ owesNow c (owedX c Finset.univ + owedY c s)) ∗ cred (tallyAt (xferC c (.inr (i, 1))) () NC)) -∗ wpk c p Q)
        -∗ wpk c (sendY c i p) Q) := by
  unfold owesNow xPts rPts sendY
  iintro ⟨⟨#HR, ⟨%W, HO⟩⟩, Hx, ⟨%f, Hr⟩, Ht1, Ht2⟩ Hk
  ihave #HI1 := (inv_at X K c (.inr (.inr (i, 1)))) $$ HR
  ihave #HI2 := (inv_at X K (yDev c) (.inr (.inr (i, 2)))) $$ HR
  ihave #HR1 := (reached_at X K c (.inr (.inr (i, 1)))) $$ HR
  ihave #HR2 := (reached_at X K (yDev c) (.inr (.inr (i, 2)))) $$ HR
  iapply (Rounds.wp_send_pointsTo 𝒱₀ ER (sched X) (c : Thread nD τ) none (c' := (yDev c : Thread nD τ))
      (src := xRow c i) (dst := rRow i) (fs := X c) (fd := f) (q := q)
      (κ₁ := K (c, .inr (.inr (i, 1)))) (κ₂ := K (yDev c, .inr (.inr (i, 2)))) (r₁ := 0) (r₂ := 0) (d₁ := true) (d₂ := true)
      (sS := ksem (.inr (.inr (i, 1)))) (sem := ksem (.inr (.inr (i, 2))))
      (mem_duties_xfer X c (.inr (i, 1))) (mem_duties_xfer X (yDev c) (.inr (i, 2))) () () NC (credit_r i)
      (amount_xfer X c (.inr (i, 1)) true) (amount_xfer X (yDev c) (.inr (i, 2)) true)
      (owedX c Finset.univ + owedY c s) (owedY_insert c hi) (W := W)
      (by rw [payload_xfer]; show _ ⊢ iprop(emp); iintro -; iempintro)
      (by
        rw [payload_xfer]
        show _ ⊢ rPts (yDev c) i (halfOf (yDev c) (X (yDev (yDev c))))
        rw [yDev_yDev, half_y]
        unfold rPts
        exact Entails.of_eq (pointsTo_congr (landed (rRow i).view f (halfOf c (X c)) _ (read_x c i (X c)))))) $$ [Hx Hr HO Ht1 Ht2]
  · isplitr; · iexact HI1
    isplitr; · iexact HI2
    isplitl [Hx]; · iexact Hx
    isplitl [Hr]; · iexact Hr
    isplitl [HO]; · iexact HO
    isplitl [Ht1]; · iexact Ht1
    isplitr; · iexact HR1
    isplitl [Ht2]; · iexact Ht2
    iexact HR2
  iintro ⟨Hc, HO⟩
  iapply Hk
  isplitl [HO]
  · isplitr; · iexact HR
    iexists _; iexact HO
  iexact Hc

/-- The half of `x` is copied in. -/
theorem step_loadHalf (q : PosShare TreeShare) (p : KProg F) (Q : PUnit → sProp 𝕄) :
    iprop(records X K ∗ levAts L lv ∗ owesNow c (owedX c Finset.univ) ∗ xHalfPts X c q ∗ (∃ f, lWhole c f)
        ∗ dutyTok ER (xferC c (.inl ())) 0 true ∗ atPos ER (xferC c (.inl ())) 0 ∅ 0)
      ⊢ iprop(((owesNow c (owedX c Finset.univ) ∗ semVal (xferC c (.inl ())) 0 ∗ lWhole c (halfOf c (X c))) -∗ wpk c p Q)
        -∗ wpk c (loadHalf c p) Q) := by
  iintro ⟨#HR, #Hlev, HO, Hx, ⟨%f, Hl⟩, Ht, Hat⟩ Hk
  ihave #HI := (inv_at X K c (.inr (.inl ()))) $$ HR
  ihave #HR1 := (reached_at X K c (.inr (.inl ()))) $$ HR
  unfold loadHalf
  iapply (Rounds.wp_copy_pointsTo 𝒱₀ ER (sched X) (c : Thread nD τ) none (src := xHalf c) (dst := lM) (fs := X c) (fd := f) (q := q)
      (κ := K (c, .inr (.inl ()))) (r := 0) (d := true) (sem := ksem (.inr (.inl ())))
      (mem_duties_xfer X c (.inl ())) () NL credit_load (amount_xfer X c (.inl ()) true)
      (by
        rw [payload_xfer]
        show _ ⊢ lWhole c (halfOf c (X c))
        unfold lWhole
        iintro ⟨H, -⟩
        iapply (Entails.of_eq (pointsTo_congr (landed lM.view f (halfOf c (X c)) _ (read_half c (X c)))))
        iexact H)) $$ [Hx Hl Ht]
  · isplitr; · iexact HI
    isplitl [Hx]; · unfold xHalfPts; iexact Hx
    isplitl [Hl]; · unfold lWhole; iexact Hl
    isplitl [Ht]; · iexact Ht
    iexact HR1
  iintro Hc
  iapply (wp_wait_xfer X K c (.inl ()) (owedX c Finset.univ) (src := xHalf c) (dst := lM) credit_load
    (mayWait_x c (.inr (.inl ())) (by rw [lv_load]; decide) Finset.univ) p Q) $$ [HO Hat Hc]
  · isplitr; · iexact HR
    isplitr; · iexact Hlev
    isplitl [Hat]; · iexact Hat
    isplitl [Hc]; · iexact Hc
    iexact HO
  iintro ⟨HO, Hz, Hl⟩
  iapply Hk
  isplitl [HO]; · iexact HO
  isplitl [Hz]; · iexact Hz
  iapply (show dpay X c (.inl ()) ⊢ lWhole c (halfOf c (X c)) from Entails.of_eq rfl)
  iexact Hl

/-- Chunk `i` is summed, and the sum starts toward the own result and the x-neighbour's. -/
theorem step_reduce (i : Fin 32) (s : Finset (Fin 32)) (hi : i ∉ s) (p : KProg F) (Q : PUnit → sProp 𝕄) :
    iprop((records X K ∗ levAts L lv ∗ owesNow c (owedX c (insert i s)))
        ∗ atPos ER (xferC c (.inr (i, 2))) 0 ∅ 0 ∗ cred (tallyAt (xferC c (.inr (i, 2))) () NC)
        ∗ lPts c i fullShare (halfOf c (X c)) ∗ (∃ f, oPts c c i f) ∗ (∃ f, oPts (xDev c) c i f)
        ∗ dutyTok ER (xferC c (.inr (i, 0))) 0 true ∗ dutyTok ER (xferC c (.inr (i, 3))) 0 true
        ∗ dutyTok ER (xferC (xDev c) (.inr (i, 4))) 0 true)
      ⊢ iprop((((records X K ∗ levAts L lv ∗ owesNow c (owedX c s))
          ∗ semVal (xferC c (.inr (i, 2))) 0 ∗ rPts c i (halfOf c (X (yDev c)))
          ∗ cred (tallyAt (xferC c (.inr (i, 0))) () NC) ∗ cred (tallyAt (xferC c (.inr (i, 3))) () NC)) -∗ wpk c p Q)
        -∗ wpk c (reduceChunk c i p) Q) := by
  iintro ⟨⟨#HR, #Hlev, HO⟩, Hat, Hcr, Hl, ⟨%fo, Ho⟩, ⟨%fx, Hx⟩, Ht0, Ht3, Ht4⟩ Hk
  ihave #HI0 := (inv_at X K c (.inr (.inr (i, 0)))) $$ HR
  ihave #HI3 := (inv_at X K c (.inr (.inr (i, 3)))) $$ HR
  ihave #HI4 := (inv_at X K (xDev c) (.inr (.inr (i, 4)))) $$ HR
  ihave #HR0 := (reached_at X K c (.inr (.inr (i, 0)))) $$ HR
  ihave #HR3 := (reached_at X K c (.inr (.inr (i, 3)))) $$ HR
  ihave #HR4 := (reached_at X K (xDev c) (.inr (.inr (i, 4)))) $$ HR
  unfold reduceChunk
  iapply (wp_wait_xfer X K c (.inr (i, 2)) (owedX c (insert i s)) (src := xRow c i) (dst := rRow i) (credit_r i)
    (mayWait_x c (.inr (.inr (i, 2))) (by rw [lv_chunk]; decide) (insert i s)) _ Q) $$ [HO Hat Hcr]
  · isplitr; · iexact HR
    isplitr; · iexact Hlev
    isplitl [Hat]; · iexact Hat
    isplitl [Hcr]; · iexact Hcr
    iexact HO
  iintro ⟨HO, Hz, Hr⟩
  ihave Hr := (show dpay X c (.inr (i, 2)) ⊢ rPts c i (halfOf c (X (yDev c))) from Entails.of_eq rfl) $$ Hr
  unfold lPts rPts
  iapply (wp_load_rect 𝒱₀ (c : Thread nD τ) none Set.univ (m := lM) (r := chunk i) (S := (lRow i).view.set) Finset.Subset.rfl) $$ [Hl]
  · iexact Hl
  iintro Hl
  iapply (wp_load_rect 𝒱₀ (c : Thread nD τ) none Set.univ (m := rM) (r := chunk i) (S := (rRow i).view.set) Finset.Subset.rfl) $$ [Hr]
  · iexact Hr
  iintro Hr
  iapply (wp_load_rect 𝒱₀ (c : Thread nD τ) none Set.univ (m := lM) (r := chunk i) (S := (lRow i).view.set) Finset.Subset.rfl) $$ [Hl]
  · iexact Hl
  iintro Hl
  iapply (wp_store 𝒱₀ (c : Thread nD τ) none Set.univ (m := lM) (r := chunk i) (S := (lRow i).view.set) Finset.Subset.rfl) $$ [Hl]
  · iexact Hl
  iintro Hl
  ihave Hl := (Entails.of_eq (pointsTo_congr (landed (lM.access (chunk i)) (halfOf c (X c)) (halfOf c (sumOf X c)) _ (read_sum X c i)))) $$ Hl
  ihave Hl := (pointsTo_share (PosShare.mem_left_op_right fullShare)).1 $$ Hl
  icases Hl with ⟨Hl0, Hl3⟩
  unfold oPts
  iapply (Rounds.wp_copy_pointsTo 𝒱₀ ER (sched X) (c : Thread nD τ) none (src := lRow i) (dst := oRow c i) (fs := halfOf c (sumOf X c)) (fd := fo)
      (q := fullShare.left) (κ := K (c, .inr (.inr (i, 0)))) (r := 0) (d := true) (sem := ksem (.inr (.inr (i, 0))))
      (mem_duties_xfer X c (.inr (i, 0))) () NC (credit_o c i) (amount_xfer X c (.inr (i, 0)) true)
      (by
        rw [payload_xfer]
        show _ ⊢ iprop(oPts c c i (resultOf X c) ∗ lPts c i fullShare.left (halfOf c (sumOf X c)))
        unfold oPts lPts
        exact sep_mono_left (Entails.of_eq (pointsTo_congr (landed (oRow c i).view fo (resultOf X c) _ (read_own X c i)))))) $$ [Hl0 Ho Ht0]
  · isplitr; · iexact HI0
    isplitl [Hl0]; · iexact Hl0
    isplitl [Ho]; · iexact Ho
    isplitl [Ht0]; · iexact Ht0
    iexact HR0
  iintro Hc0
  unfold owesNow
  icases HO with ⟨%W, HO⟩
  iapply (Rounds.wp_send_pointsTo 𝒱₀ ER (sched X) (c : Thread nD τ) none (c' := (xDev c : Thread nD τ))
      (src := lRow i) (dst := oRow c i) (fs := halfOf c (sumOf X c)) (fd := fx) (q := fullShare.right)
      (κ₁ := K (c, .inr (.inr (i, 3)))) (κ₂ := K (xDev c, .inr (.inr (i, 4)))) (r₁ := 0) (r₂ := 0) (d₁ := true) (d₂ := true)
      (sS := ksem (.inr (.inr (i, 3)))) (sem := ksem (.inr (.inr (i, 4))))
      (mem_duties_xfer X c (.inr (i, 3))) (mem_duties_xfer X (xDev c) (.inr (i, 4))) () () NC (credit_o c i)
      (amount_xfer X c (.inr (i, 3)) true) (amount_xfer X (xDev c) (.inr (i, 4)) true)
      (owedX c s) (owedX_insert c hi) (W := W)
      (by rw [payload_xfer]; exact Entails.of_eq rfl)
      (by
        rw [payload_xfer]
        show _ ⊢ oPts (xDev c) (xDev (xDev c)) i (resultOf X (xDev c))
        rw [xDev_xDev]
        unfold oPts
        exact Entails.of_eq (pointsTo_congr (landed (oRow c i).view fx (resultOf X (xDev c)) _ (read_other X c i))))) $$ [Hl3 Hx HO Ht3 Ht4]
  · isplitr; · iexact HI3
    isplitr; · iexact HI4
    isplitl [Hl3]; · iexact Hl3
    isplitl [Hx]; · iexact Hx
    isplitl [HO]; · iexact HO
    isplitl [Ht3]; · iexact Ht3
    isplitr; · iexact HR3
    isplitl [Ht4]; · iexact Ht4
    iexact HR4
  iintro ⟨Hc3, HO⟩
  iapply Hk
  isplitl [HO]
  · isplitr; · iexact HR
    isplitr; · iexact Hlev
    iexists _; iexact HO
  isplitl [Hz]; · iexact Hz
  isplitl [Hr]; · iexact Hr
  isplitl [Hc0]; · iexact Hc0
  iexact Hc3

/-- The four transfers of chunk `i` in flight land. -/
theorem step_drain (i : Fin 32) (s : Finset (Fin 32)) (hi : i ∉ s) (p : KProg F) (Q : PUnit → sProp 𝕄) :
    iprop((records X K ∗ levAts L lv ∗ owesNow c 0)
        ∗ (atPos ER (xferC c (.inr (i, 0))) 0 ∅ 0 ∗ cred (tallyAt (xferC c (.inr (i, 0))) () NC))
        ∗ (atPos ER (xferC c (.inr (i, 1))) 0 ∅ 0 ∗ cred (tallyAt (xferC c (.inr (i, 1))) () NC))
        ∗ (atPos ER (xferC c (.inr (i, 3))) 0 ∅ 0 ∗ cred (tallyAt (xferC c (.inr (i, 3))) () NC))
        ∗ (atPos ER (xferC c (.inr (i, 4))) 0 ∅ 0 ∗ cred (tallyAt (xferC c (.inr (i, 4))) () NC)))
      ⊢ iprop((((records X K ∗ levAts L lv ∗ owesNow c 0)
          ∗ (semVal (xferC c (.inr (i, 0))) 0 ∗ semVal (xferC c (.inr (i, 1))) 0 ∗ semVal (xferC c (.inr (i, 3))) 0
            ∗ semVal (xferC c (.inr (i, 4))) 0)
          ∗ oPts c c i (resultOf X c) ∗ lPts c i fullShare (halfOf c (sumOf X c)) ∗ oPts c (xDev c) i (resultOf X c)) -∗ wpk c p Q)
        -∗ wpk c (drainChunk c i p) Q) := by
  have hw (k : Xfer) : (levAts L lv : sProp 𝕄) ⊢ MayWait (c : Thread nD τ) (ksem (.inr k)) () 0 := by
    rw [MayWait_zero]
    iintro -
    iempintro
  iintro ⟨⟨#HR, #Hlev, HO⟩, ⟨Ha0, Hc0⟩, ⟨Ha1, Hc1⟩, ⟨Ha3, Hc3⟩, ⟨Ha4, Hc4⟩⟩ Hk
  unfold drainChunk
  iapply (wp_wait_xfer X K c (.inr (i, 0)) 0 (src := lRow i) (dst := oRow c i) (credit_o c i) (hw _) _ Q) $$ [HO Ha0 Hc0]
  · isplitr; · iexact HR
    isplitr; · iexact Hlev
    isplitl [Ha0]; · iexact Ha0
    isplitl [Hc0]; · iexact Hc0
    iexact HO
  iintro ⟨HO, Hz0, Hp⟩
  ihave Hp := (show dpay X c (.inr (i, 0)) ⊢ iprop(oPts c c i (resultOf X c) ∗ lPts c i fullShare.left (halfOf c (sumOf X c))) from Entails.of_eq rfl) $$ Hp
  icases Hp with ⟨Ho, Hl⟩
  iapply (wp_wait_xfer X K c (.inr (i, 1)) 0 (src := rRow i) (dst := xRow c i) (credit_x c i) (hw _) _ Q) $$ [HO Ha1 Hc1]
  · isplitr; · iexact HR
    isplitr; · iexact Hlev
    isplitl [Ha1]; · iexact Ha1
    isplitl [Hc1]; · iexact Hc1
    iexact HO
  iintro ⟨HO, Hz1, -⟩
  iapply (wp_wait_xfer X K c (.inr (i, 3)) 0 (src := oRow c i) (dst := lRow i) (credit_l i) (hw _) _ Q) $$ [HO Ha3 Hc3]
  · isplitr; · iexact HR
    isplitr; · iexact Hlev
    isplitl [Ha3]; · iexact Ha3
    isplitl [Hc3]; · iexact Hc3
    iexact HO
  iintro ⟨HO, Hz3, Hr⟩
  ihave Hr := (show dpay X c (.inr (i, 3)) ⊢ lPts c i fullShare.right (halfOf c (sumOf X c)) from Entails.of_eq rfl) $$ Hr
  iapply (wp_wait_xfer X K c (.inr (i, 4)) 0 (src := lRow i) (dst := oRow c i) (credit_o c i) (hw _) _ Q) $$ [HO Ha4 Hc4]
  · isplitr; · iexact HR
    isplitr; · iexact Hlev
    isplitl [Ha4]; · iexact Ha4
    isplitl [Hc4]; · iexact Hc4
    iexact HO
  iintro ⟨HO, Hz4, Hx⟩
  ihave Hx := (show dpay X c (.inr (i, 4)) ⊢ oPts c (xDev c) i (resultOf X c) from Entails.of_eq rfl) $$ Hx
  iapply Hk
  isplitl [HO]
  · isplitr; · iexact HR
    isplitr; · iexact Hlev
    iexact HO
  isplitl [Hz0 Hz1 Hz3 Hz4]
  · isplitl [Hz0]; · iexact Hz0
    isplitl [Hz1]; · iexact Hz1
    isplitl [Hz3] <;> iassumption
  isplitl [Ho]; · iexact Ho
  isplitl [Hl Hr]
  · unfold lPts
    iapply (pointsTo_share (PosShare.mem_left_op_right fullShare)).2
    isplitl [Hl] <;> iassumption
  iexact Hx

end Cert.AllReduce

end
-- ==== Proof.Body.lean ====
/-
# The body

The body on any device, from the launch's resources to the result: the buffers split into their chunks, the barrier, the
three loops by the loop rule, and the buffers whole again.
-/
module

public import proofs.«01_k».proof.Proof.Steps

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers and their chunks -/

/-- A product over both devices' chunks is a product over the own ones and one over the neighbour's. -/
theorem bigSep_both (Φ : Bool × Fin 32 → sProp 𝕄) :
    bigSep Finset.univ Φ = iprop((bigSep Finset.univ fun i => Φ (false, i)) ∗ bigSep Finset.univ fun i => Φ (true, i)) := by
  rw [bigSep_univ_prod, bigSep_univ_eq_bigSepL [false, true] (by decide) (by decide), bigSepL_cons_cons, bigSepL_singleton]
  rfl

/-- Device `c`'s result is its own chunks and its x-neighbour's. -/
theorem out_split (c : Dev nD) (f : Block F) :
    (((c : Thread nD τ).loc main_v1) ↦{fullShare} f : sProp 𝕄)
      = iprop((bigSep Finset.univ fun i => oPts c c i f) ∗ bigSep Finset.univ fun i => oPts c (xDev c) i f) := by
  have h1 : (bigSep Finset.univ fun i : Fin 32 => (((c : Thread nD τ).loc main_v1) ↦[bothSets c (false, i)]{fullShare} f : sProp 𝕄))
      = bigSep Finset.univ fun i => oPts c c i f :=
    bigSep_congr fun i _ => congrArg (fun S => (((c : Thread nD τ).loc main_v1) ↦[S]{fullShare} f : sProp 𝕄)) (set_oRow c i).symm
  have h2 : (bigSep Finset.univ fun i : Fin 32 => (((c : Thread nD τ).loc main_v1) ↦[bothSets c (true, i)]{fullShare} f : sProp 𝕄))
      = bigSep Finset.univ fun i => oPts c (xDev c) i f :=
    bigSep_congr fun i _ => congrArg (fun S => (((c : Thread nD τ).loc main_v1) ↦[S]{fullShare} f : sProp 𝕄)) (set_oRow (xDev c) i).symm
  rw [Ring.pointsTo_blocks (Ix := Unit) (Name := ℕ) (U := UU) (Lvl := ℕ) (q := fullShare) (ℓ := (c : Thread nD τ).loc main_v1)
    (bothSets c) (both_disjoint c) (both_cover c) f, bigSep_both, h1, h2]

/-- The whole own buffer is its memref's elements. -/
theorem whole_eq (c : Dev nD) (f : Half F) : lWhole c f = (((c : Thread nD τ).loc cc0_scratch0) ↦{fullShare} f : sProp 𝕄) :=
  congrArg (fun S => (((c : Thread nD τ).loc cc0_scratch0) ↦[S]{fullShare} f : sProp 𝕄)) (View.set_whole cc0_scratch0)

/-- A buffer of half size is its chunks. -/
theorem own_split (c : Dev nD) (f : Half F) : lWhole c f = bigSep Finset.univ fun i => lPts c i fullShare f := by
  have h : (bigSep Finset.univ fun i : Fin 32 => (((c : Thread nD τ).loc cc0_scratch0) ↦[(chunk i).set]{fullShare} f : sProp 𝕄))
      = bigSep Finset.univ fun i => lPts c i fullShare f :=
    bigSep_congr fun i _ => congrArg (fun S => (((c : Thread nD τ).loc cc0_scratch0) ↦[S]{fullShare} f : sProp 𝕄)) (set_lRow i).symm
  rw [whole_eq, Ring.pointsTo_blocks (Ix := Unit) (Name := ℕ) (U := UU) (Lvl := ℕ) (q := fullShare) (ℓ := (c : Thread nD τ).loc cc0_scratch0)
    (fun i => (chunk i).set) chunk_disjoint chunk_cover f, h]

/-- The receive buffer is its chunks. -/
theorem recv_split (c : Dev nD) (f : Half F) :
    (((c : Thread nD τ).loc cc0_scratch1) ↦{fullShare} f : sProp 𝕄) = bigSep Finset.univ fun i => rPts c i f := by
  have h : (bigSep Finset.univ fun i : Fin 32 => (((c : Thread nD τ).loc cc0_scratch1) ↦[(chunk i).set]{fullShare} f : sProp 𝕄))
      = bigSep Finset.univ fun i => rPts c i f :=
    bigSep_congr fun i _ => congrArg (fun S => (((c : Thread nD τ).loc cc0_scratch1) ↦[S]{fullShare} f : sProp 𝕄)) (set_rRow i).symm
  rw [Ring.pointsTo_blocks (Ix := Unit) (Name := ℕ) (U := UU) (Lvl := ℕ) (q := fullShare) (ℓ := (c : Thread nD τ).loc cc0_scratch1)
    (fun i => (chunk i).set) chunk_disjoint chunk_cover f, h]

variable (X : Dev nD → Block F)

/-- The own half of `x`, for the load. -/
theorem x_half (c : Dev nD) (q : PosShare TreeShare) :
    (((c : Thread nD τ).loc main_arg0) ↦{q} X c : sProp 𝕄) ⊢ xHalfPts X c q := by
  unfold xHalfPts
  iintro H
  ihave H' := (pointsTo_split_subset (Finset.subset_univ (xHalf c).view.set)).1 $$ H
  icases H' with ⟨H, -⟩
  iexact H

/-- The own half of `x` in chunks, for the sends. -/
theorem x_chunks (c : Dev nD) (q : PosShare TreeShare) :
    (((c : Thread nD τ).loc main_arg0) ↦{q} X c : sProp 𝕄) ⊢ bigSep Finset.univ fun i => xPts X c i q := by
  have h : (bigSep Finset.univ fun i : Fin 32 => (((c : Thread nD τ).loc main_arg0) ↦[bothSets c (false, i)]{q} X c : sProp 𝕄))
      = bigSep Finset.univ fun i => xPts X c i q :=
    bigSep_congr fun i _ => congrArg (fun S => (((c : Thread nD τ).loc main_arg0) ↦[S]{q} X c : sProp 𝕄)) (set_xRow c i).symm
  rw [Ring.pointsTo_blocks (Ix := Unit) (Name := ℕ) (U := UU) (Lvl := ℕ) (q := q) (ℓ := (c : Thread nD τ).loc main_arg0)
    (bothSets c) (both_disjoint c) (both_cover c) (X c), bigSep_both, h]
  iintro ⟨H, -⟩
  iexact H

/-! ## What the body starts from and ends at -/

/-- The tokens of the duties device `c` pays. -/
def tokens (c : Dev nD) : sProp 𝕄 :=
  iprop(dutyTok ER (barC (yDev c)) 0 true ∗ dutyTok ER (barC (xDev c)) 0 false ∗ dutyTok ER (xferC c (.inl ())) 0 true
    ∗ (bigSep Finset.univ fun i => dutyTok ER (xferC c (.inr (i, 0))) 0 true)
    ∗ (bigSep Finset.univ fun i => dutyTok ER (xferC c (.inr (i, 1))) 0 true)
    ∗ (bigSep Finset.univ fun i => dutyTok ER (xferC (yDev c) (.inr (i, 2))) 0 true)
    ∗ (bigSep Finset.univ fun i => dutyTok ER (xferC c (.inr (i, 3))) 0 true)
    ∗ (bigSep Finset.univ fun i => dutyTok ER (xferC (xDev c) (.inr (i, 4))) 0 true))

/-- Five resources of every chunk and one beside: `Φ` of each transfer. -/
def eachXfer (Φ : Xfer → sProp 𝕄) : sProp 𝕄 :=
  iprop(Φ (.inl ()) ∗ (bigSep Finset.univ fun i => Φ (.inr (i, 0))) ∗ (bigSep Finset.univ fun i => Φ (.inr (i, 1)))
    ∗ (bigSep Finset.univ fun i => Φ (.inr (i, 2))) ∗ (bigSep Finset.univ fun i => Φ (.inr (i, 3)))
    ∗ (bigSep Finset.univ fun i => Φ (.inr (i, 4))))

/-- Device `c`'s positions. -/
def positions (c : Dev nD) : sProp 𝕄 :=
  iprop(atPos ER (barC c) 0 ∅ 0 ∗ eachXfer fun k => atPos ER (xferC c k) 0 ∅ 0)

/-- The credit device `c` waits with at launch. -/
def credits (c : Dev nD) : sProp 𝕄 :=
  iprop(cred (tallyAt (barC c) () 2) ∗ (bigSep Finset.univ fun i : Fin 32 => cred (tallyAt (xferC c (.inr (i, 2))) () NC))
    ∗ bigSep Finset.univ fun i : Fin 32 => cred (tallyAt (xferC c (.inr (i, 4))) () NC))

/-- The scratch buffers at some contents. -/
def scratch (c : Dev nD) : sProp 𝕄 :=
  iprop((∃ f : Half F, ((c : Thread nD τ).loc cc0_scratch0) ↦{fullShare} f) ∗ (∃ f : Half F, ((c : Thread nD τ).loc cc0_scratch1) ↦{fullShare} f))

/-- What the protocol gives device `c`. -/
def ghost (K : Dev nD × Cell → ℕ) (c : Dev nD) : sProp 𝕄 := iprop(records X K ∗ tokens c ∗ positions c)

/-- What the launch deals device `c`. -/
def start (c : Dev nD) : sProp 𝕄 :=
  iprop((∃ K, ghost X K c) ∗ credits c ∗ levAts L lv
    ∗ (((c : Thread nD τ).loc main_arg0) ↦{fullShare} X c) ∗ (∃ f : Block F, ((c : Thread nD τ).loc main_v1) ↦{fullShare} f))

/-- What device `c` ends with. -/
def finish (c : Dev nD) : sProp 𝕄 :=
  iprop((((c : Thread nD τ).loc main_arg0) ↦{fullShare.left} X c) ∗ (((c : Thread nD τ).loc main_v1) ↦{fullShare} resultOf X c)
    ∗ semVal (barC c) 0 ∗ eachXfer fun k => semVal (xferC c k) 0)

/-! ## The loops -/

theorem owedX_empty (c : Dev nD) : owedX c ∅ = 0 := Finset.sum_empty
/-- With the sends to the y-neighbour all started, only the sends to the x-neighbour are still owed. -/
theorem owedY_empty (c : Dev nD) : owedX c Finset.univ + owedY c ∅ = owedX c Finset.univ := add_zero _

variable (K : Dev nD × Cell → ℕ) (c : Dev nD)

/-- All chunks sent to the y-neighbour. -/
theorem loop_sendY (q : PosShare TreeShare) (p : KProg F) (Q : PUnit → sProp 𝕄) :
    iprop((records X K ∗ owesNow c (owedX c Finset.univ + owedY c Finset.univ))
        ∗ (bigSep Finset.univ fun i => xPts X c i q) ∗ (bigSep Finset.univ fun i : Fin 32 => iprop(∃ f, rPts (yDev c) i f))
        ∗ (bigSep Finset.univ fun i : Fin 32 => dutyTok ER (xferC c (.inr (i, 1))) 0 true)
        ∗ (bigSep Finset.univ fun i : Fin 32 => dutyTok ER (xferC (yDev c) (.inr (i, 2))) 0 true))
      ⊢ iprop((((records X K ∗ owesNow c (owedX c Finset.univ)) ∗ bigSep Finset.univ fun i : Fin 32 => cred (tallyAt (xferC c (.inr (i, 1))) () NC)) -∗ wpk c p Q)
        -∗ wpk c (each (sendY c) chunks p) Q) := by
  have h := wp_chunks c (sendY c) (fun s => iprop(records X K ∗ owesNow c (owedX c Finset.univ + owedY c s)))
    (fun i => iprop(xPts X c i q ∗ (∃ f, rPts (yDev c) i f) ∗ dutyTok ER (xferC c (.inr (i, 1))) 0 true ∗ dutyTok ER (xferC (yDev c) (.inr (i, 2))) 0 true))
    (fun i => cred (tallyAt (xferC c (.inr (i, 1))) () NC)) (fun i s hi p Q => step_sendY X K c q i s hi p Q) p Q
  rw [bigSep_sep', bigSep_sep', bigSep_sep', owedY_empty] at h
  exact h

/-- All chunks summed and sent on. -/
theorem loop_reduce (p : KProg F) (Q : PUnit → sProp 𝕄) :
    iprop((records X K ∗ levAts L lv ∗ owesNow c (owedX c Finset.univ))
        ∗ (bigSep Finset.univ fun i : Fin 32 => atPos ER (xferC c (.inr (i, 2))) 0 ∅ 0)
        ∗ (bigSep Finset.univ fun i : Fin 32 => cred (tallyAt (xferC c (.inr (i, 2))) () NC))
        ∗ (bigSep Finset.univ fun i : Fin 32 => lPts c i fullShare (halfOf c (X c)))
        ∗ (bigSep Finset.univ fun i : Fin 32 => iprop(∃ f, oPts c c i f)) ∗ (bigSep Finset.univ fun i : Fin 32 => iprop(∃ f, oPts (xDev c) c i f))
        ∗ (bigSep Finset.univ fun i : Fin 32 => dutyTok ER (xferC c (.inr (i, 0))) 0 true)
        ∗ (bigSep Finset.univ fun i : Fin 32 => dutyTok ER (xferC c (.inr (i, 3))) 0 true)
        ∗ (bigSep Finset.univ fun i : Fin 32 => dutyTok ER (xferC (xDev c) (.inr (i, 4))) 0 true))
      ⊢ iprop((((records X K ∗ levAts L lv ∗ owesNow c 0)
          ∗ (bigSep Finset.univ fun i : Fin 32 => semVal (xferC c (.inr (i, 2))) 0)
          ∗ (bigSep Finset.univ fun i : Fin 32 => rPts c i (halfOf c (X (yDev c))))
          ∗ (bigSep Finset.univ fun i : Fin 32 => cred (tallyAt (xferC c (.inr (i, 0))) () NC))
          ∗ (bigSep Finset.univ fun i : Fin 32 => cred (tallyAt (xferC c (.inr (i, 3))) () NC))) -∗ wpk c p Q)
        -∗ wpk c (each (reduceChunk c) chunks p) Q) := by
  have h := wp_chunks c (reduceChunk c) (fun s => iprop(records X K ∗ levAts L lv ∗ owesNow c (owedX c s)))
    (fun i => iprop(atPos ER (xferC c (.inr (i, 2))) 0 ∅ 0 ∗ cred (tallyAt (xferC c (.inr (i, 2))) () NC)
        ∗ lPts c i fullShare (halfOf c (X c)) ∗ (∃ f, oPts c c i f) ∗ (∃ f, oPts (xDev c) c i f)
        ∗ dutyTok ER (xferC c (.inr (i, 0))) 0 true ∗ dutyTok ER (xferC c (.inr (i, 3))) 0 true
        ∗ dutyTok ER (xferC (xDev c) (.inr (i, 4))) 0 true))
    (fun i => iprop(semVal (xferC c (.inr (i, 2))) 0 ∗ rPts c i (halfOf c (X (yDev c)))
          ∗ cred (tallyAt (xferC c (.inr (i, 0))) () NC) ∗ cred (tallyAt (xferC c (.inr (i, 3))) () NC)))
    (fun i s hi p Q => step_reduce X K c i s hi p Q) p Q
  simp only [bigSep_sep', owedX_empty] at h
  exact h

/-- All transfers in flight landed. -/
theorem loop_drain (p : KProg F) (Q : PUnit → sProp 𝕄) :
    iprop((records X K ∗ levAts L lv ∗ owesNow c 0)
        ∗ ((bigSep Finset.univ fun i : Fin 32 => atPos ER (xferC c (.inr (i, 0))) 0 ∅ 0) ∗ bigSep Finset.univ fun i : Fin 32 => cred (tallyAt (xferC c (.inr (i, 0))) () NC))
        ∗ ((bigSep Finset.univ fun i : Fin 32 => atPos ER (xferC c (.inr (i, 1))) 0 ∅ 0) ∗ bigSep Finset.univ fun i : Fin 32 => cred (tallyAt (xferC c (.inr (i, 1))) () NC))
        ∗ ((bigSep Finset.univ fun i : Fin 32 => atPos ER (xferC c (.inr (i, 3))) 0 ∅ 0) ∗ bigSep Finset.univ fun i : Fin 32 => cred (tallyAt (xferC c (.inr (i, 3))) () NC))
        ∗ ((bigSep Finset.univ fun i : Fin 32 => atPos ER (xferC c (.inr (i, 4))) 0 ∅ 0) ∗ bigSep Finset.univ fun i : Fin 32 => cred (tallyAt (xferC c (.inr (i, 4))) () NC)))
      ⊢ iprop((((records X K ∗ levAts L lv ∗ owesNow c 0)
          ∗ ((bigSep Finset.univ fun i : Fin 32 => semVal (xferC c (.inr (i, 0))) 0) ∗ (bigSep Finset.univ fun i : Fin 32 => semVal (xferC c (.inr (i, 1))) 0)
            ∗ (bigSep Finset.univ fun i : Fin 32 => semVal (xferC c (.inr (i, 3))) 0) ∗ (bigSep Finset.univ fun i : Fin 32 => semVal (xferC c (.inr (i, 4))) 0))
          ∗ (bigSep Finset.univ fun i : Fin 32 => oPts c c i (resultOf X c))
          ∗ (bigSep Finset.univ fun i : Fin 32 => lPts c i fullShare (halfOf c (sumOf X c)))
          ∗ (bigSep Finset.univ fun i : Fin 32 => oPts c (xDev c) i (resultOf X c))) -∗ wpk c p Q)
        -∗ wpk c (each (drainChunk c) chunks p) Q) := by
  have h := wp_chunks c (drainChunk c) (fun _ => iprop(records X K ∗ levAts L lv ∗ owesNow c 0))
    (fun i => iprop((atPos ER (xferC c (.inr (i, 0))) 0 ∅ 0 ∗ cred (tallyAt (xferC c (.inr (i, 0))) () NC))
        ∗ (atPos ER (xferC c (.inr (i, 1))) 0 ∅ 0 ∗ cred (tallyAt (xferC c (.inr (i, 1))) () NC))
        ∗ (atPos ER (xferC c (.inr (i, 3))) 0 ∅ 0 ∗ cred (tallyAt (xferC c (.inr (i, 3))) () NC))
        ∗ (atPos ER (xferC c (.inr (i, 4))) 0 ∅ 0 ∗ cred (tallyAt (xferC c (.inr (i, 4))) () NC))))
    (fun i => iprop((semVal (xferC c (.inr (i, 0))) 0 ∗ semVal (xferC c (.inr (i, 1))) 0 ∗ semVal (xferC c (.inr (i, 3))) 0
            ∗ semVal (xferC c (.inr (i, 4))) 0)
          ∗ oPts c c i (resultOf X c) ∗ lPts c i fullShare (halfOf c (sumOf X c)) ∗ oPts c (xDev c) i (resultOf X c)))
    (fun i s hi p Q => step_drain X K c i s hi p Q) p Q
  simp only [bigSep_sep'] at h
  exact h

/-! ## The whole body -/

/-- Chunks at one contents are chunks at some contents. -/
theorem some_o (d e : Dev nD) (f : Block F) :
    (bigSep Finset.univ fun i => (oPts d e i f : sProp 𝕄)) ⊢ bigSep Finset.univ fun i : Fin 32 => iprop(∃ f, oPts d e i f) :=
  bigSep_mono fun i _ => show (oPts d e i f : sProp 𝕄) ⊢ iprop(∃ f, oPts d e i f) by iintro H; iexists f; iexact H
/-- The same of the receive buffer's chunks. -/
theorem some_r (d : Dev nD) (f : Half F) :
    (bigSep Finset.univ fun i => (rPts d i f : sProp 𝕄)) ⊢ bigSep Finset.univ fun i : Fin 32 => iprop(∃ f, rPts d i f) :=
  bigSep_mono fun i _ => show (rPts d i f : sProp 𝕄) ⊢ iprop(∃ f, rPts d i f) by iintro H; iexists f; iexact H

/-- The body on device `c`. -/
theorem sound_body (Kt : PUnit → sProp 𝕄) :
    iprop((start X c ∗ scratch c ∗ owesNow c (owed₀ c)) ∗ ((finish X c ∗ scratch c ∗ owesNow c 0) -∗ Kt ⟨⟩))
      ⊢ wpk c (.op .deviceId fun d => bodyOn d) Kt := by
  simp only [wp_deviceId]
  unfold start ghost tokens positions eachXfer credits scratch bodyOn owesNow
  iintro ⟨⟨⟨⟨%K, #HR, ⟨HtY, HtX, HtL, Ht0, Ht1, Ht2, Ht3, Ht4⟩, HaB, HaL, Ha0, Ha1, Ha2, Ha3, Ha4⟩, ⟨HcB, Hc2, Hc4⟩, #Hlev, Hx, ⟨%fo, Ho⟩⟩,
    ⟨⟨%fl, Hl⟩, ⟨%fr, Hr⟩⟩, ⟨%W, HO⟩⟩, Hk⟩
  -- the buffers, split
  ihave Ho := (Entails.of_eq (out_split c fo)) $$ Ho
  icases Ho with ⟨Hoo, Hox⟩
  ihave Hoo := (some_o c c fo) $$ Hoo
  ihave Hox := (some_o c (xDev c) fo) $$ Hox
  ihave Hr := (Entails.of_eq (recv_split c fr)) $$ Hr
  ihave Hr := (some_r c fr) $$ Hr
  ihave Hx := (pointsTo_share (PosShare.mem_left_op_right fullShare)).1 $$ Hx
  icases Hx with ⟨HxA, Hx⟩
  ihave Hx := (pointsTo_share (PosShare.mem_left_op_right fullShare.right)).1 $$ Hx
  icases Hx with ⟨HxB, HxC⟩
  ihave HxB := (x_chunks X c fullShare.right.left) $$ HxB
  ihave HxC := (x_half X c fullShare.right.right) $$ HxC
  -- the signal to the y-neighbour, with the receive buffer
  ihave #HIy := (inv_at X K (yDev c) (.inl ())) $$ HR
  ihave #HIx := (inv_at X K (xDev c) (.inl ())) $$ HR
  ihave #HI := (inv_at X K c (.inl ())) $$ HR
  iapply (Rounds.wp_signal 𝒱₀ ER (sched X) (c : Thread nD τ) none (dst := (yDev c : Thread nD τ)) (κ := K (yDev c, .inl ()))
      (d := true) (mem_duties_bar X (yDev c) true) (amount_bar X (yDev c) true) () (owed₁ c) rfl) $$ [HO HtY Hr]
  · isplitr; · iexact HIy
    isplitl [HO]; · iexact HO
    isplitl [HtY]; · iexact HtY
    isplitl [Hr]
    · rw [show (sched X).payload ((yDev c : Thread nD τ), SemLoc.reg barS) 0 true = bpay (yDev c) true from rfl]
      unfold bpay
      rw [if_pos rfl, yDev_yDev]
      iexact Hr
    iapply (reached_at X K (yDev c) (.inl ())); iexact HR
  iintro HO
  -- the signal to the x-neighbour, with its rows of the result
  iapply (Rounds.wp_signal 𝒱₀ ER (sched X) (c : Thread nD τ) none (dst := (xDev c : Thread nD τ)) (κ := K (xDev c, .inl ()))
      (d := false) (mem_duties_bar X (xDev c) false) (amount_bar X (xDev c) false) () (owedX c Finset.univ + owedY c Finset.univ) rfl) $$ [HO HtX Hox]
  · isplitr; · iexact HIx
    isplitl [HO]; · iexact HO
    isplitl [HtX]; · iexact HtX
    isplitl [Hox]
    · rw [show (sched X).payload ((xDev c : Thread nD τ), SemLoc.reg barS) 0 false = bpay (xDev c) false from rfl]
      unfold bpay
      rw [if_neg (by decide), xDev_xDev]
      iexact Hox
    iapply (reached_at X K (xDev c) (.inl ())); iexact HR
  iintro HO
  -- the wait for both, with theirs
  iapply (Rounds.wp_wait_rest_token 𝒱₀ ER (sched X) (c : Thread nD τ) none (κ := K (c, .inl ()))
      (wpE_semWait_eq 𝒱₀ (c : Thread nD τ) none Set.univ) (Set.mem_univ _) () (O := owedX c Finset.univ + owedY c Finset.univ) (W := W)
      (R := 0) (m := 0) (T := ∅) (sm := ksem (.inl ())) (by rw [Nat.zero_add]; exact (expect_bar X c).symm)) $$ [HcB HO HaB]
  · isplitr; · iexact HI
    isplitl [HcB]; · iexact HcB
    isplitl [HO]; · iexact HO
    isplitr; · iapply (mayWait_bar c); iexact Hlev
    iexact HaB
  iintro ⟨HO, HaB, -, Hpay⟩
  ihave Hp := (Entails.of_eq (rest_bar X c)) $$ Hpay
  unfold bpay
  rw [if_pos rfl, if_neg (by decide)]
  icases Hp with ⟨HrY, HoX⟩
  imod (Rounds.cell_close ER (sched X) (Set.mem_univ (K (c, .inl ()))) (fun h => h) (R := 0 + 1) (duties_later X (barC c))) $$ [HaB] with HzB
  · isplitr; · iexact HI
    iexact HaB
  -- the loops
  unfold loops
  iapply (loop_sendY X K c fullShare.right.left _ Kt) $$ [HO HxB HrY Ht1 Ht2]
  · isplitl [HO]
    · isplitr; · iexact HR
      unfold owesNow; iexists _; iexact HO
    isplitl [HxB]; · iexact HxB
    isplitl [HrY]; · iexact HrY
    isplitl [Ht1] <;> iassumption
  iintro ⟨⟨-, HO⟩, Hc1⟩
  iapply (step_loadHalf X K c fullShare.right.right _ Kt) $$ [HO HxC Hl HtL HaL]
  · isplitr; · iexact HR
    isplitr; · iexact Hlev
    isplitl [HO]; · iexact HO
    isplitl [HxC]; · iexact HxC
    isplitl [Hl]; · iexists fl; rw [whole_eq]; iexact Hl
    isplitl [HtL] <;> iassumption
  iintro ⟨HO, HzL, Hl⟩
  ihave Hl := (Entails.of_eq (own_split c (halfOf c (X c)))) $$ Hl
  iapply (loop_reduce X K c _ Kt) $$ [HO Ha2 Hc2 Hl Hoo HoX Ht0 Ht3 Ht4]
  · isplitl [HO]
    · isplitr; · iexact HR
      isplitr; · iexact Hlev
      iexact HO
    isplitl [Ha2]; · iexact Ha2
    isplitl [Hc2]; · iexact Hc2
    isplitl [Hl]; · iexact Hl
    isplitl [Hoo]; · iexact Hoo
    isplitl [HoX]; · iexact HoX
    isplitl [Ht0]; · iexact Ht0
    isplitl [Ht3] <;> iassumption
  iintro ⟨⟨-, -, HO⟩, Hz2, Hr, Hc0, Hc3⟩
  iapply (loop_drain X K c _ Kt) $$ [HO Ha0 Hc0 Ha1 Hc1 Ha3 Hc3 Ha4 Hc4]
  · isplitl [HO]
    · isplitr; · iexact HR
      isplitr; · iexact Hlev
      iexact HO
    isplitl [Ha0 Hc0]; · isplitl [Ha0] <;> iassumption
    isplitl [Ha1 Hc1]; · isplitl [Ha1] <;> iassumption
    isplitl [Ha3 Hc3]; · isplitl [Ha3] <;> iassumption
    isplitl [Ha4] <;> iassumption
  iintro ⟨⟨-, -, HO⟩, ⟨Hz0, Hz1, Hz3, Hz4⟩, Hoo, Hl, Hox⟩
  unfold wpk; rw [wp_ret]
  imodintro
  iapply Hk
  -- the buffers, whole
  isplitl [HxA Hoo Hox HzB HzL Hz0 Hz1 Hz2 Hz3 Hz4]
  · unfold finish eachXfer
    isplitl [HxA]; · iexact HxA
    isplitl [Hoo Hox]
    · iapply (Entails.of_eq (out_split c (resultOf X c)).symm)
      isplitl [Hoo] <;> iassumption
    isplitl [HzB]; · iexact HzB
    isplitl [HzL]; · iexact HzL
    isplitl [Hz0]; · iexact Hz0
    isplitl [Hz1]; · iexact Hz1
    isplitl [Hz2]; · iexact Hz2
    isplitl [Hz3] <;> iassumption
  isplitl [Hl Hr]
  · isplitl [Hl]
    · iexists (halfOf c (sumOf X c))
      iapply (Entails.of_eq ((own_split c (halfOf c (sumOf X c))).symm.trans (whole_eq c _)))
      iexact Hl
    · iexists (halfOf c (X (yDev c)))
      iapply (Entails.of_eq (recv_split c (halfOf c (X (yDev c)))).symm)
      iexact Hr
  unfold owesNow; iexact HO

end Cert.AllReduce

end
-- ==== Proof.Launch.lean ====
/-
# The launch

The protocol's cells and tokens made and dealt to the devices, the launch's credit, and the run of the whole program.
-/
module

public import proofs.«01_k».proof.Proof.Body
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-- The kernel's own semaphores. -/
abbrev osem (k : Xfer) : SemLoc sig := .dma (dsem k)

set_option maxRecDepth 65536 in
/-- The kernel's own semaphores are scoped to the launch. -/
theorem osem_scoped : ∀ k : Xfer, (osem k).isScoped .tc = true := by decide +kernel

/-- The kernel's own semaphores are scoped, distinct, and no window's. -/
theorem ownSemFacts : Pipeline.OwnSemFacts cfg0.spec osem :=
  ⟨osem_scoped, fun a b h => dsem_injective (by injection h), fun _ w => Fin.elim0 (show Fin 0 from w)⟩

/-! ## Products over the cells -/

/-- A product over all transfers is the load's factor and five products over the chunks. -/
theorem eachXfer_eq (Φ : Xfer → sProp 𝕄) : bigSep Finset.univ Φ = eachXfer Φ := by
  have h (i : Fin 32) : (bigSep Finset.univ fun g : Fin 5 => Φ (.inr (i, g)))
      = iprop(Φ (.inr (i, 0)) ∗ Φ (.inr (i, 1)) ∗ Φ (.inr (i, 2)) ∗ Φ (.inr (i, 3)) ∗ Φ (.inr (i, 4))) :=
    bigSep_univ_eq_bigSepL [0, 1, 2, 3, 4] (by decide) (by decide) _
  unfold eachXfer
  rw [bigSep_univ_sum, bigSep_univ_of_subsingleton (), bigSep_univ_prod, bigSep_congr (fun i _ => h i), bigSep_sep', bigSep_sep', bigSep_sep', bigSep_sep']
  rfl

/-- A product over a device's cells is the barrier's factor and a product over the transfers. -/
theorem bigSep_cell (Φ : Cell → sProp 𝕄) : bigSep Finset.univ Φ = iprop(Φ (.inl ()) ∗ eachXfer fun k => Φ (.inr k)) := by
  rw [bigSep_univ_sum, bigSep_univ_of_subsingleton (), eachXfer_eq]
  rfl

/-! ## Cells and tokens -/

/-- All devices' cells. -/
def allCells : Finset (GSem nD τ sig) :=
  Finset.univ.map ⟨fun ck : Dev nD × Cell => kcell ck.1 ck.2, fun a b h => Prod.ext (kcell_eq h).1 (kcell_eq h).2⟩

/-- The tokens made for a device's cells: two at the barrier, one at each transfer. -/
abbrev tokOf (cj : Dev nD × (Bool ⊕ Xfer)) : GSem nD τ sig × ℕ × Bool := match cj.2 with
  | .inl b => (barC cj.1, 0, b)
  | .inr k => (xferC cj.1 k, 0, true)

/-- Different duties have different tokens. -/
theorem tokOf_injective : Function.Injective tokOf := by
  rintro ⟨c, b | k⟩ ⟨c', b' | k'⟩ h
  · obtain ⟨rfl, -⟩ := kcell_eq (congrArg Prod.fst h)
    have hb : b = b' := congrArg (fun x : GSem nD τ sig × ℕ × Bool => x.2.2) h
    rw [hb]
  · obtain ⟨-, h2⟩ := kcell_eq (congrArg Prod.fst h)
    cases h2
  · obtain ⟨-, h2⟩ := kcell_eq (congrArg Prod.fst h)
    cases h2
  · obtain ⟨rfl, h2⟩ := kcell_eq (congrArg Prod.fst h)
    injection h2 with h2
    rw [h2]

/-- All devices' tokens. -/
def allToks : Finset (GSem nD τ sig × ℕ × Bool) := Finset.univ.map ⟨tokOf, tokOf_injective⟩

/-- The ghost element that the launch makes: the pipeline's part, which is empty of cells, and the kernel's. -/
def u₀ : UU :=
  (initOf (Pipeline.cells cfgs cellOf_inj) (Pipeline.launchToks cfgs cellOf_inj), initOf allCells allToks)

/-- The tokens of device `c`'s own cells. -/
def toks (c : Dev nD) : sProp 𝕄 :=
  iprop((dutyTok ER (barC c) 0 true ∗ dutyTok ER (barC c) 0 false) ∗ eachXfer fun k => dutyTok ER (xferC c k) 0 true)

variable (X : Dev nD → Block F)

/-- What the launch element deals device `c`. -/
def G (c : Dev nD) : sProp 𝕄 :=
  iprop((bigSep Finset.univ fun k : Cell => roundState ER (sched X) (kcell c k) 0)
    ∗ (bigSep Finset.univ fun k : Cell => iprop(atPos ER (kcell c k) 0 ∅ 0 ∗ reached ER (kcell c k) 0)) ∗ toks c)

/-- What the global step makes of it. -/
def G' (c : Dev nD) : sProp 𝕄 := iprop(∃ K, ghost X K c)

/-- The tokens of one device's duties, listed. -/
theorem toks_eq (c : Dev nD) :
    (bigSep Finset.univ fun j : Bool ⊕ Xfer => (dutyTok ER (tokOf (c, j)).1 (tokOf (c, j)).2.1 (tokOf (c, j)).2.2 : sProp 𝕄)) = toks c := by
  unfold toks
  rw [bigSep_univ_sum, eachXfer_eq, bigSep_univ_eq_bigSepL [true, false] (by decide) (by decide), bigSepL_cons_cons, bigSepL_singleton]
  rfl

/-- The launch element gives every device its cells' states, positions and tokens. -/
theorem fund_cells : BI.own (ER (initOf allCells allToks)) ⊢ (|==> bigSep Finset.univ (G X) : sProp 𝕄) := by
  have hX (Φ : GSem nD τ sig → sProp 𝕄) : bigSep allCells Φ = bigSep Finset.univ fun c : Dev nD => bigSep Finset.univ fun k : Cell => Φ (kcell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (sched X) allCells allToks) $$ HX with ⟨Hst, Hr, Hat, Htok⟩
  imodintro
  ihave Hst' := (Entails.of_eq (hX fun g => roundState ER (sched X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants, and the tokens dealt -/

/-- The kernel's own semaphores at zero are the transfers' counters at zero. -/
theorem ownSems0_each (c : Dev nD) : (Pipeline.ownSems0 (Ix := Unit) (Name := ℕ) (U := UU) (Lvl := ℕ) (Val := Elt F) (τ := τ) osem c : sProp 𝕄)
    = eachXfer fun k => semVal (xferC c k) 0 := by
  unfold Pipeline.ownSems0
  exact eachXfer_eq _

/-- The one unscoped semaphore is the barrier's. -/
theorem unscopedSems0_bar (c : Dev nD) : (unscopedSems0 c : sProp 𝕄) = semVal (barC c) 0 := by
  unfold unscopedSems0; rw [bigSep_eq_bigSepL_of_eq [SemLoc.reg barS] (by decide) (by decide)]; rfl

/-- All of a device's semaphores at zero are its cells' counters at zero. -/
theorem sems0_cells (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell c k) 0 : sProp 𝕄) := by
  rw [ownSems0_each, unscopedSems0_bar, bigSep_cell]
  iintro ⟨HS, HB⟩
  isplitl [HB] <;> iassumption

/-- One device's cells, with their counters at zero, become invariants. -/
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : Cell => iprop(∃ κ : ℕ, cellInv ER (sched X) κ (kcell c k)))
          ∗ (bigSep Finset.univ fun k : Cell => iprop(atPos ER (kcell c k) 0 ∅ 0 ∗ reached ER (kcell c k) 0)) ∗ toks c) := by
  unfold G
  iintro ⟨Hos, Hus, Hst, Hat, Htok⟩
  ihave Hv := (sems0_cells (F := F) c) $$ [Hos Hus]
  · isplitl [Hos] <;> iassumption
  imod (show iprop((bigSep Finset.univ fun k : Cell => semVal (kcell c k) 0) ∗ bigSep Finset.univ fun k : Cell => roundState ER (sched X) (kcell c k) 0)
      ⊢ (|={Set.univ}=> bigSep Finset.univ fun k : Cell => iprop(∃ κ : ℕ, cellInv ER (sched X) κ (kcell c k)) : sProp 𝕄) from by
        rw [← bigSep_sep']
        exact (bigSep_mono fun k _ => (Rounds.body_intro ER (sched X) (kcell c k)).trans inv_alloc).trans (bigSep_fupd _ _)) $$ [Hv Hst] with Hinv
  · isplitl [Hv] <;> iassumption
  imodintro
  isplitl [Hinv]; · iexact Hinv
  isplitl [Hat]; · iexact Hat
  iexact Htok

/-- The tokens go to the devices that pay their duties: the barrier's and the receives' to the neighbours. -/
theorem toks_around : (bigSep Finset.univ fun c : Dev nD => (toks c : sProp 𝕄)) ⊢ bigSep Finset.univ fun c : Dev nD => tokens c := by
  unfold toks tokens eachXfer
  simp only [bigSep_sep']
  iintro ⟨⟨HY, HX⟩, HL, H0, H1, H2, H3, H4⟩
  isplitl [HY]
  · iapply (Entails.of_eq (bigSep_univ_equiv yPerm (fun c : Dev nD => (dutyTok ER (barC c) 0 true : sProp 𝕄)))); iexact HY
  isplitl [HX]
  · iapply (Entails.of_eq (bigSep_univ_equiv xPerm (fun c : Dev nD => (dutyTok ER (barC c) 0 false : sProp 𝕄)))); iexact HX
  isplitl [HL]; · iexact HL
  isplitl [H0]; · iexact H0
  isplitl [H1]; · iexact H1
  isplitl [H2]
  · iapply (Entails.of_eq (bigSep_univ_equiv yPerm (fun c : Dev nD => (bigSep Finset.univ fun i : Fin 32 => (dutyTok ER (xferC c (.inr (i, 2))) 0 true : sProp 𝕄)))))
    iexact H2
  isplitl [H3]; · iexact H3
  iapply (Entails.of_eq (bigSep_univ_equiv xPerm (fun c : Dev nD => (bigSep Finset.univ fun i : Fin 32 => (dutyTok ER (xferC c (.inr (i, 4))) 0 true : sProp 𝕄)))))
  iexact H4

/-- A persistent fact serves every factor of a product. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What a device's body needs of the ghost state, from the records, its positions and its tokens. -/
theorem ghost_intro (K : Dev nD × Cell → ℕ) (c : Dev nD) : iprop(records X K ∗ positions c ∗ tokens c) ⊢ G' X c := by
  unfold G' ghost
  iintro ⟨HR, Hp, Ht⟩
  iexists K
  isplitl [HR]; · iexact HR
  isplitl [Ht] <;> iassumption

/-- The invariants and the tokens of all devices, dealt to the devices that use them. -/
theorem regroup :
    (bigSep Finset.univ fun c : Dev nD => iprop((bigSep Finset.univ fun k : Cell => iprop(∃ κ : ℕ, cellInv ER (sched X) κ (kcell c k)))
          ∗ (bigSep Finset.univ fun k : Cell => iprop(atPos ER (kcell c k) 0 ∅ 0 ∗ reached ER (kcell c k) 0)) ∗ toks c) : sProp 𝕄)
      ⊢ bigSep Finset.univ (G' X) := by
  have hpos : (bigSep Finset.univ fun c : Dev nD => bigSep Finset.univ fun k : Cell => (atPos ER (kcell c k) 0 ∅ 0 : sProp 𝕄))
      = bigSep Finset.univ fun c : Dev nD => positions c :=
    bigSep_congr fun c _ => bigSep_cell _
  rw [bigSep_sep', bigSep_sep', ← bigSep_univ_prod (fun ck : Dev nD × Cell => iprop(∃ κ : ℕ, cellInv ER (sched X) κ (kcell ck.1 ck.2))),
    bigSep_congr (s := Finset.univ) (fun (c : Dev nD) _ => bigSep_sep' Finset.univ (fun k : Cell => (atPos ER (kcell c k) 0 ∅ 0 : sProp 𝕄)) (fun k => reached ER (kcell c k) 0)),
    bigSep_sep', ← bigSep_univ_prod (fun ck : Dev nD × Cell => (reached ER (kcell ck.1 ck.2) 0 : sProp 𝕄)), hpos]
  iintro ⟨HI, ⟨Hat, #HR⟩, Htok⟩
  ihave HK := (BI.bigSep_exists_pi Finset.univ (fun (ck : Dev nD × Cell) (κ : ℕ) => (cellInv ER (sched X) κ (kcell ck.1 ck.2) : sProp 𝕄))) $$ HI
  icases HK with ⟨%K, #HI⟩
  ihave Htk := (toks_around (F := F)) $$ Htok
  iapply (bigSep_with_persistent (R := records X K) fun c _ => ghost_intro X K c)
  isplitr
  · unfold records; isplitl; · iexact HI
    iexact HR
  · rw [bigSep_sep']
    isplitl [Hat] <;> iassumption

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The launch credit -/

theorem creds (c : Dev nD) : (Pipeline.launchCred owed₀ c : sProp 𝕄) ⊢ credits c := by
  have hx : (Pipeline.launchCred (fun d => owedX d Finset.univ) c : sProp 𝕄)
      ⊢ bigSep Finset.univ fun i : Fin 32 => cred (tallyAt (xferC c (.inr (i, 4))) () NC) := by
    refine (Entails.of_eq (Pipeline.launchCred_sum Finset.univ (fun (i : Fin 32) d => tallyAt (xferC (xDev d) (.inr (i, 4))) () NC) c)).trans ?_
    exact bigSep_mono fun i _ => Pipeline.launchCred_tallyAt (ksem (.inr (.inr (i, 4)))) xDev xDev xDev_xDev xDev_xDev () NC c
  have hy : (Pipeline.launchCred (fun d => owedY d Finset.univ) c : sProp 𝕄)
      ⊢ bigSep Finset.univ fun i : Fin 32 => cred (tallyAt (xferC c (.inr (i, 2))) () NC) := by
    refine (Entails.of_eq (Pipeline.launchCred_sum Finset.univ (fun (i : Fin 32) d => tallyAt (xferC (yDev d) (.inr (i, 2))) () NC) c)).trans ?_
    exact bigSep_mono fun i _ => Pipeline.launchCred_tallyAt (ksem (.inr (.inr (i, 2)))) yDev yDev yDev_yDev yDev_yDev () NC c
  have hbx : (Pipeline.launchCred (fun d => tallyAt (barC (xDev d)) () 1) c : sProp 𝕄) ⊢ cred (tallyAt (barC c) () 1) :=
    Pipeline.launchCred_tallyAt (ksem (.inl ())) xDev xDev xDev_xDev xDev_xDev () 1 c
  have hby : (Pipeline.launchCred (fun d => tallyAt (barC (yDev d)) () 1) c : sProp 𝕄) ⊢ cred (tallyAt (barC c) () 1) :=
    Pipeline.launchCred_tallyAt (ksem (.inl ())) yDev yDev yDev_yDev yDev_yDev () 1 c
  have e : (Pipeline.launchCred owed₀ c : sProp 𝕄)
      = iprop(((Pipeline.launchCred (fun d => owedX d Finset.univ) c ∗ Pipeline.launchCred (fun d => owedY d Finset.univ) c)
        ∗ Pipeline.launchCred (fun d => tallyAt (barC (xDev d)) () 1) c) ∗ Pipeline.launchCred (fun d => tallyAt (barC (yDev d)) () 1) c) := by
    rw [← Pipeline.launchCred_add, ← Pipeline.launchCred_add, ← Pipeline.launchCred_add]
    rfl
  rw [e]
  unfold credits
  iintro ⟨⟨⟨Hx, Hy⟩, Hbx⟩, Hby⟩
  ihave Hx := hx $$ Hx
  ihave Hy := hy $$ Hy
  ihave Hbx := hbx $$ Hbx
  ihave Hby := hby $$ Hby
  isplitl [Hbx Hby]
  · rw [show (tallyAt (barC c) () 2 : CellTallies nD τ sig Unit) = tallyAt (barC c) () 1 + tallyAt (barC c) () 1 from (tallyAt_add _ _ 1 1).symm]
    iapply (cred_add _ _).2
    isplitl [Hbx] <;> iassumption
  isplitl [Hy] <;> iassumption

/-! ## The run -/

variable (m : (ℓ : Loc nD τ sig) → Buf (Elt F) ℓ) (ρ : Dev nD → PrngReg)

/-- Every device's `x` at launch. -/
def xs (c : Dev nD) : Block F := m ((c : Thread nD τ).loc main_arg0)

/-- The one point: from what the launch deals to the end. -/
def dats (_ : Fin 1) (c : Dev nD) : Dat τ (Elt F) Unit ℕ UU ℕ cfg0 c where
  A w := Fin.elim0 (show Fin 0 from w)
  after w _ := Fin.elim0 (show Fin 0 from w)
  Φ t := match t with
    | ⟨0, _⟩ => iprop(start (xs m) c ∗ scratch c)
    | ⟨_ + 1, _⟩ => iprop(finish (xs m) c ∗ scratch c)
  q _ := fullShare
  owed t := match t with
    | ⟨0, _⟩ => owed₀ c
    | ⟨_ + 1, _⟩ => 0

/-- The launch has no window, so a product over its windows is empty. -/
theorem bigSep_none (Φ : Fin cfg0.W → sProp 𝕄) : bigSep Finset.univ Φ = iprop(emp) := by
  rw [show (Finset.univ : Finset (Fin cfg0.W)) = ∅ from rfl, bigSep_empty]
  rfl

set_option maxRecDepth 65536 in
/-- The kernel's body meets the launch's obligation at its one grid point. -/
theorem body_obligation (c : Dev nD) : BodyObligation (dats (F := F) m 0 c) (defs₀ (F := F)) 𝒱₀ () Set.univ := fun t => by
  rw [fin_N0 t, bigSep_none, bigSep_none]
  show iprop((start (xs m) c ∗ scratch c) ∗ (dats m 0 c).owesAt () t0_0.castSucc ∗ emp)
    ⊢ wpk c (cc0_body (F := F) xM (Memref.isWhole_whole _) oM (Memref.isWhole_whole _) lM (Memref.isWhole_whole _) rM (Memref.isWhole_whole _)
      cc0_scratch2 cc0_scratch3 cc0_scratch4 cc0_scratch5 cc0_scratch6 cc0_scratch7)
      (fun _ => iprop((finish (xs m) c ∗ scratch c) ∗ (dats m 0 c).owesAt () t0_0.succ ∗ emp))
  rw [cc0_body_uniform]
  unfold Dat.owesAt Pipeline.owesWithin
  rw [show (dats m 0 c).owed t0_0.castSucc = owed₀ c from rfl, show (dats m 0 c).owed t0_0.succ = 0 from rfl]
  iintro ⟨⟨Hs, Hscr⟩, ⟨%W, %hW, HO⟩, -⟩
  iapply (sound_body (xs m) c _)
  isplitl
  · isplitl [Hs]; · iexact Hs
    isplitl [Hscr]; · iexact Hscr
    unfold owesNow; iexists W; iexact HO
  · unfold owesNow
    iintro ⟨Hf, Hscr, ⟨%W', HO⟩⟩
    isplitl [Hf Hscr]; · isplitl [Hf] <;> iassumption
    isplitl
    · iexists W'
      isplitr; · ipureintro; exact fun _ _ => Or.inl trivial
      iexact HO
    iempintro

/-- What the launch hands device `c` is what its body starts from. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' (xs m) c)
      ⊢ |={Set.univ}=> iprop(start (xs m) c ∗ emp) := by
  rw [Pipeline.unscopedRestP_none, unscopedRest0_eq]
  iintro ⟨⟨Hx, Ho⟩, Hlev, Hcr, -, HG⟩
  ihave Hc := (creds (F := F) c) $$ Hcr
  imodintro
  unfold start G'
  isplitl
  · isplitl [HG]; · iexact HG
    isplitl [Hc]; · iexact Hc
    isplitl [Hlev]; · iexact Hlev
    isplitl [Hx]; · iexact Hx
    iexists _; iexact Ho
  · iempintro

/-- With the scratch buffers it is the state before the grid's one point. -/
theorem phi0_intro (c : Dev nD) :
    iprop(start (xs m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start (xs m) c ∗ scratch c) from rfl, scopedRest0_eq]
  unfold scratch
  iintro ⟨Hs, -, Hr⟩
  isplitl [Hs]; · iexact Hs
  iexact Hr

/-- What stays of device `c` to read at the end. -/
def left (c : Dev nD) : sProp 𝕄 :=
  iprop((((c : Thread nD τ).loc main_arg0) ↦{fullShare.left} xs m c) ∗ (((c : Thread nD τ).loc main_v1) ↦{fullShare} resultOf (xs m) c) ∗ unscopedSems0 c)

/-- The state after the grid's one point gives back the semaphores and the scratch buffers. -/
theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = iprop(finish (xs m) c ∗ scratch c) from rfl, scopedRest0_eq, ownSems0_each]
  unfold finish left scratch
  rw [unscopedSems0_bar]
  iintro ⟨⟨Hx, Ho, HzB, Hz⟩, Hscr⟩
  isplitl [Hx Ho HzB]
  · isplitl [Hx]; · iexact Hx
    isplitl [Ho] <;> iassumption
  isplitl [Hz] <;> iassumption

/-- No window's cell is waited for. -/
theorem waits (c : Dev nD) : (levAts L lv : sProp 𝕄) ⊢ Pipeline.cellsWaits cfgs (dats m) () 0 c :=
  Pipeline.cellsWaits_intro cfgs (dats m) () 0 c fun w _ _ => Fin.elim0 (show Fin 0 from w)

/-- Reading one device's buffer at the end. -/
theorem read_at {ℓ : Loc nD τ sig} {q : PosShare TreeShare} {f : Buf (Elt F) ℓ} (s' : Phys nD τ sig (Elt F)) :
    iprop((ℓ ↦{q} f) ∗ SI s') ⊢ (iprop(⌜s'.mem.mem ℓ = f⌝ ∗ SI s') : sProp 𝕄) := by
  have h := pointsTo_read_all (Ix := Unit) (Name := ℕ) (U := UU) (Lvl := ℕ) ({()} : Finset Unit) (fun _ => ℓ) (fun _ => f) s' q
  rw [bigSep_singleton] at h
  refine h.trans ?_
  iintro ⟨%hm, H⟩
  isplitr
  · ipureintro; exact hm () (Finset.mem_singleton_self _)
  iexact H

set_option maxRecDepth 65536 in
/-- From any memory with zero counters, the program terminates on every fair schedule, and at the end every device's result
    is the sum, its `x` is unchanged and every counter is zero. -/
theorem run_main : θ_run defs (onTc (τ := τ) (main (F := F))) ⟨m, fun _ => 0, ρ⟩ (fun r =>
    (∀ c : Dev nD, r.2.mem ((c : Thread nD τ).loc main_arg0) = xs m c ∧ r.2.mem ((c : Thread nD τ).loc main_v1) = resultOf (xs m) c)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => Fin.elim0 (show Fin 0 from w)) (harr := arr_whole0) (hstage := stage_whole0)
    (hshare := fun _ w => Fin.elim0 (show Fin 0 from w))
    (hdistinct := winFacts0.arr_inj)
    (O₀ := owed₀) (howed₀ := fun _ => rfl) (howedN := fun _ => rfl)
    (L := L) (lv := lv) (hL := L_of_ne) (hwaits := waits m)
    (G := G (xs m)) (G' := G' (xs m)) (u₀ := u₀)
    (hu₀ := by
      unfold u₀
      iintro Hu
      ihave H := (ownU_pair _ _) $$ Hu
      icases H with ⟨HP, HX⟩
      imod (fund_cells (xs m)) $$ HX with HG
      imodintro
      isplitl [HP] <;> iassumption)
    (hglob := glob (xs m))
    (hA := fun _ w => Fin.elim0 (show Fin 0 from w)) (hpf := fun _ k => k.elim0)
    (X := start (xs m)) (Y := left m) (Z := fun _ => iprop(emp))
    (hX := start_intro m ρ) (hin := phi0_intro m) (hout := phi1_exit m)
    (QY := fun c s => (s.mem ((c : Thread nD τ).loc main_arg0) = xs m c ∧ s.mem ((c : Thread nD τ).loc main_v1) = resultOf (xs m) c)
      ∧ ∀ sm : SemLoc sig, sm.isScoped .tc = false → s.sem ((c.tc : Thread nD τ), sm) = 0)
    (hY := fun c s' => by
      unfold left
      iintro ⟨⟨Hx, Ho, Hu⟩, -, HSI⟩
      ihave H := (read_at (F := F) s') $$ [Hx HSI]
      · isplitl [Hx] <;> iassumption
      icases H with ⟨%hx, HSI⟩
      ihave H := (read_at (F := F) s') $$ [Ho HSI]
      · isplitl [Ho] <;> iassumption
      icases H with ⟨%ho, HSI⟩
      imod (Pipeline.unscopedSems0_read (X := unscopedSems0 c) (c := c) fupd_intro s') $$ [Hu HSI] with ⟨%hs, HSI⟩
      · isplitl [Hu] <;> iassumption
      imodintro
      isplitr; · ipureintro; exact ⟨⟨hx, ho⟩, hs⟩
      iexact HSI)
    (hQ := fun _ h hs => ⟨fun c => (h c).2.2.1, sem_eq_zero hs fun c => (h c).2.2.2⟩)

end Cert.AllReduce

end
-- ==== Proof.Value.lean ====
/-
# The value

Over the extended reals every device's result is the plain sum of the two blocks of the whole array: the reference's
value, read element by element, and the kernel's, which adds the same two numbers in one order or the other.
-/
module

public import proofs.«01_k».proof.Proof.Launch
public import proofs.«01_k».proof.Proof.Gen.ReferenceIdeal.Run
public import Idealize.ShloMosaic.Lib.IdealHost
public import Idealize.ShloMosaic.Lib.Layout
public import Idealize.ShloMosaic.Lib.Pointwise.Reduce
public import Idealize.ShloMosaic.Lib.Pointwise.Reshape

@[expose] public section

noncomputable section

namespace Cert.AllReduce

open Cert.KernelIdeal Cert.KernelIdeal.Gen
open Idealize.ShloMosaic Idealize.ShloMosaic.TcCoe

/-- The whole array the devices hold blocks of. -/
abbrev Whole := (⟨2, ![16384, 1024]⟩ : Shape).Idx → EReal

/-- Element `y` of block `k`, as an element of the whole array. -/
def inBlock (k : Fin 2) (y : S8192x1024.Idx) : (⟨2, ![16384, 1024]⟩ : Shape).Idx :=
  have h : (y 0).val < 8192 := (y 0).isLt
  ix2 ⟨8192 * k.val + (y 0).val, by omega⟩ ⟨(y 1).val, (y 1).isLt⟩

/-- The block device `d` holds: its coordinate along the mesh's second axis. -/
def blockOf (d : Dev nD) : Fin 2 := ⟨d.val % 2, Nat.mod_lt _ (by decide)⟩

/-- The sum of the two blocks. -/
def total (W : Whole) : S8192x1024.Idx → EReal := fun y => W (inBlock 0 y) + W (inBlock 1 y)

/-- The y-neighbour holds the other block. -/
theorem blockOf_yDev (d : Dev nD) : blockOf (yDev d) = 1 - blockOf d := by revert d; decide

/-- What device `d` is given of the whole array, at an element. -/
theorem blockN_at (W : Whole) (d : Dev nD) (y : S8192x1024.Idx) :
    Layout.blockN ⟨2, ![8192, 1024]⟩ ⟨2, ![16384, 1024]⟩ (Layout.meshBlock [2, 2] ![[1], []] d) W (by decide) y
      = W (inBlock (blockOf d) y) := by
  rw [Layout.blockN_apply]
  congr 1
  funext b
  refine Fin.ext ?_
  rw [Layout.TilesN.idx_val]
  have h0 : ∀ d : Dev nD, ((Layout.meshBlock [2, 2] (![[1], []] : Fin 2 → List Nat) d (by decide)) 0).val = d.val % 2 := by decide
  have h1 : ∀ d : Dev nD, ((Layout.meshBlock [2, 2] (![[1], []] : Fin 2 → List Nat) d (by decide)) 1).val = 0 := by decide
  match b with
  | ⟨0, _⟩ =>
    have := h0 d
    show ((Layout.meshBlock [2, 2] (![[1], []] : Fin 2 → List Nat) d _) 0).val * 8192 + (y 0).val = 8192 * (d.val % 2) + (y 0).val
    omega
  | ⟨1, _⟩ =>
    have := h1 d
    show ((Layout.meshBlock [2, 2] (![[1], []] : Fin 2 → List Nat) d _) 1).val * 1024 + (y 1).val = (y 1).val
    omega

/-- A device and its y-neighbour hold the two blocks, in one order or the other, so their sum is the total. -/
theorem sumOf_total (W : Whole) (X : Dev nD → Block Ideal) (hX : ∀ d y, X d y = W (inBlock (blockOf d) y)) (d : Dev nD) :
    sumOf X d = total W := by
  funext y
  show (X d y : EReal) + X (yDev d) y = W (inBlock 0 y) + W (inBlock 1 y)
  rw [hX, hX, blockOf_yDev]
  obtain h | h : blockOf d = 0 ∨ blockOf d = 1 := by revert d; decide
  · rw [h]; rfl
  · rw [h]; exact add_comm _ _

/-- Every device's result is the total. -/
theorem resultOf_total (W : Whole) (X : Dev nD → Block Ideal) (hX : ∀ d y, X d y = W (inBlock (blockOf d) y)) (d : Dev nD) :
    resultOf X d = total W := by
  funext y
  unfold resultOf
  rw [sumOf_total W X hX, sumOf_total W X hX, ite_self]

/-- The reference's result is the total. -/
theorem reference_total (W : Whole) :
    (Host.reduceAdd (F := Ideal) (φ := .f32) (shapeCast _ W Cert.ReferenceIdeal.Gen.facts.shapeCasts_S16384x1024_S2x8192x1024)
      (constant Cert.ReferenceIdeal.S_ .f32 0x00000000#32)
      Cert.ReferenceIdeal.Gen.facts.reducesTo_S2x8192x1024_S8192x1024_d0 Cert.ReferenceIdeal.Gen.facts.h_S_) = total W := by
  funext y
  rw [ValueIdx.hostReduceAdd_apply, Ideal.hostReduceAdd_r3_a0, Fin.sum_univ_two]
  have hr (k : Fin 2) (a : Fin 8192) (b : Fin 1024) (ha : a.val = (y 0).val) (hb : b.val = (y 1).val) :
      shapeCast _ W Cert.ReferenceIdeal.Gen.facts.shapeCasts_S16384x1024_S2x8192x1024 (ix3 k a b) = W (inBlock k y) := by
    refine shapeCast_apply _ _ _ _ ?_
    rw [Shape.rowMajor_val_two, Shape.rowMajor_val_three]
    show (8192 * k.val + (y 0).val) * 1024 + (y 1).val = (k.val * 8192 + a.val) * 1024 + b.val
    omega
  refine (congrArg₂ (fun a b : EReal => Ideal.ofBits .f32 0x00000000#32 + (a + b)) (hr 0 _ _ ?_ ?_) (hr 1 _ _ ?_ ?_)).trans ?_
  all_goals try rfl
  rw [Ideal.ofBits_zero_f32, zero_add]
  rfl

end Cert.AllReduce

end
-- ==== Proof.lean ====
/-
# The claims

`Cert.Claim` (Defs.lean): the kernel, its idealization and the reference run, terminate and end with their arguments
unchanged and every counter at zero; the idealization rewrites nothing; and over the extended reals every device's result
is the reference's. The kernel's one run is `Cert.AllReduce.run_main` (Proof/Launch.lean), for any float values; the
equation of the values is in Proof/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- `Cert.quiescent_Kernel` (Defs.lean): the run of `KernelIdeal`, whose text is the same, at the float values `Bits`. -/
theorem frame_kernel : Cert.quiescent_Kernel := fun m ρ _ =>
  (θ_run Cert.KernelIdeal.defs _ _).mono (fun _ h => ⟨fun c => (h.1 c).1, h.2⟩) (Cert.AllReduce.run_main (F := Bits) m ρ)

/-- `Cert.quiescent_KernelIdeal` (Defs.lean): the run with its values dropped. -/
theorem frame_kernelIdeal : Cert.quiescent_KernelIdeal := fun m ρ _ =>
  (θ_run Cert.KernelIdeal.defs _ _).mono (fun _ h => ⟨fun c => (h.1 c).1, h.2⟩) (Cert.AllReduce.run_main (F := Ideal) m ρ)

/-- `Cert.quiescent_ReferenceIdeal` (Defs.lean): the reference's run; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.algebraic_KernelIdeal_ReferenceIdeal` (Defs.lean): every device and the reference end with the sum of the two
    blocks of the whole array. -/
theorem algebraic : Cert.algebraic_KernelIdeal_ReferenceIdeal := by
  intro m ρ m' ρ' _ hagree
  refine ⟨Cert.AllReduce.total (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h.1 c).2.trans ?_, (h.1 c).1⟩)
      (Cert.AllReduce.run_main (F := Ideal) m ρ)
    exact Cert.AllReduce.resultOf_total _ _ (fun d y => (congrFun (hagree d) y).trans (Cert.AllReduce.blockN_at _ d y)) c
  · exact (θ_run Cert.ReferenceIdeal.defs _ _).mono
      (fun _ h => ⟨(h 0).1.trans (Cert.AllReduce.reference_total _), (h 0).2⟩)
      (Cert.ReferenceIdeal.Value.run (F := Ideal) m' ρ')

/-- `Cert.Claim` (Defs.lean). -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
